-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_whole_numbers [hPre_small_whole_numbers : Cert.Pre_small_whole_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_small_whole_numbers.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_whole_numbers [hPre_small_whole_numbers : Cert.Pre_small_whole_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_whole_numbers.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_small_whole_numbers [hKernelIdeal : Cert.KernelIdeal.Facts] [hPre_small_whole_numbers : Cert.Pre_small_whole_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_whole_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_small_whole_numbers [hReferenceIdeal : Cert.ReferenceIdeal.Facts] [hPre_small_whole_numbers : Cert.Pre_small_whole_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_whole_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_small_whole_numbers [hKernelIdeal : Cert.KernelIdeal.Facts] [hReferenceIdeal : Cert.ReferenceIdeal.Facts] [hPre_small_whole_numbers : Cert.Pre_small_whole_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_whole_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_small_whole_numbers : Cert.Pre_small_whole_numbers.Facts),
    quiescent_Kernel (hKernel := hKernel)
    ∧ quiescent_KernelIdeal (hKernelIdeal := hKernelIdeal)
    ∧ quiescent_KernelIdeal_pre_small_whole_numbers (hKernelIdeal := hKernelIdeal) (hPre_small_whole_numbers := hPre_small_whole_numbers)
    ∧ quiescent_ReferenceIdeal (hReferenceIdeal := hReferenceIdeal)
    ∧ quiescent_ReferenceIdeal_pre_small_whole_numbers (hReferenceIdeal := hReferenceIdeal) (hPre_small_whole_numbers := hPre_small_whole_numbers)
    ∧ preserves_Kernel_KernelIdeal
    ∧ algebraic_KernelIdeal_ReferenceIdeal_pre_small_whole_numbers (hKernelIdeal := hKernelIdeal) (hReferenceIdeal := hReferenceIdeal) (hPre_small_whole_numbers := hPre_small_whole_numbers)
-- ==== Pre_small_whole_numbers.lean ====
abbrev S2x64x512x512 : Shape := ⟨4, ![2, 64, 512, 512]⟩
abbrev S_ : Shape := ⟨0, ![]⟩

class Facts : Prop where
  bcast_S_S2x64x512x512 : S_.BroadcastsInDim S2x64x512x512 (![] : Fin 0 → Fin S2x64x512x512.rank)

variable [Facts]

def fn {F : FTy → Type} [FloatOps F] (main_arg0 : FVec F S2x64x512x512 .f32) : IVec S2x64x512x512 1 :=
  let main_v0 : FVec F S2x64x512x512 .f32 := Host.floor main_arg0
  let main_v1 : IVec S2x64x512x512 1 := cmpf .oeq main_v0 main_arg0
  let main_cst : FVec F S_ .f32 := constant S_ .f32 0x00000000#32
  let main_v2 : FVec F S2x64x512x512 .f32 := broadcastInDim S2x64x512x512 ![] bcast_S_S2x64x512x512 main_cst
  let main_v3 : IVec S2x64x512x512 1 := cmpf .oge main_arg0 main_v2
  let main_v4 : IVec S2x64x512x512 1 := andi main_v1 main_v3
  let main_cst_0 : FVec F S_ .f32 := constant S_ .f32 0x41700000#32
  let main_v5 : FVec F S2x64x512x512 .f32 := broadcastInDim S2x64x512x512 ![] bcast_S_S2x64x512x512 main_cst_0
  let main_v6 : IVec S2x64x512x512 1 := cmpf .ole main_arg0 main_v5
  let main_v7 : IVec S2x64x512x512 1 := andi main_v4 main_v6
  main_v7
-- ==== Kernel.lean ====
abbrev S2x64x512x512 : Shape := ⟨4, ![2, 64, 512, 512]⟩
abbrev S128x512x512 : Shape := ⟨3, ![128, 512, 512]⟩
abbrev S512x512 : Shape := ⟨2, ![512, 512]⟩
abbrev S_ : Shape := ⟨0, ![]⟩
abbrev S128x256x256 : Shape := ⟨3, ![128, 256, 256]⟩
abbrev S16x512x512 : Shape := ⟨3, ![16, 512, 512]⟩
abbrev S16x256x256 : Shape := ⟨3, ![16, 256, 256]⟩
abbrev S1x512x512 : Shape := ⟨3, ![1, 512, 512]⟩
abbrev S256x256 : Shape := ⟨2, ![256, 256]⟩
abbrev S256x1 : Shape := ⟨2, ![256, 1]⟩
abbrev S256x255 : Shape := ⟨2, ![256, 255]⟩
abbrev S1x256 : Shape := ⟨2, ![1, 256]⟩
abbrev S255x256 : Shape := ⟨2, ![255, 256]⟩
abbrev S1x256x256 : Shape := ⟨3, ![1, 256, 256]⟩
abbrev S2x64x256x256 : Shape := ⟨4, ![2, 64, 256, 256]⟩

abbrev nBuf : Space → Nat
  | .hbm => 59
  | .vmem => 6
  | .smem => 0
  | _ => 0

abbrev bufTy : (tb : Table) → Fin (tcTables nBuf tb) → BufTy
  | .hbm, ⟨0, _⟩ => ⟨S2x64x512x512, .f32⟩
  | .hbm, ⟨1, _⟩ => ⟨S128x512x512, .f32⟩
  | .hbm, ⟨2, _⟩ => ⟨S512x512, .i32⟩
  | .hbm, ⟨3, _⟩ => ⟨S512x512, .i32⟩
  | .hbm, ⟨4, _⟩ => ⟨S_, .i32⟩
  | .hbm, ⟨5, _⟩ => ⟨S512x512, .i32⟩
  | .hbm, ⟨6, _⟩ => ⟨S512x512, .i1⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .i1⟩
  | .hbm, ⟨12, _⟩ => ⟨S_, .i32⟩
  | .hbm, ⟨13, _⟩ => ⟨S512x512, .i32⟩
  | .hbm, ⟨14, _⟩ => ⟨S512x512, .i1⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S512x512, .i1⟩
  | .hbm, ⟨26, _⟩ => ⟨S512x512, .i1⟩
  | .hbm, ⟨27, _⟩ => ⟨S512x512, .bf16⟩
  | .hbm, ⟨28, _⟩ => ⟨S512x512, .i32⟩
  | .hbm, ⟨29, _⟩ => ⟨S512x512, .i32⟩
  | .hbm, ⟨30, _⟩ => ⟨S_, .i32⟩
  | .hbm, ⟨31, _⟩ => ⟨S512x512, .i32⟩
  | .hbm, ⟨32, _⟩ => ⟨S512x512, .i1⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .i1⟩
  | .hbm, ⟨38, _⟩ => ⟨S_, .i32⟩
  | .hbm, ⟨39, _⟩ => ⟨S512x512, .i32⟩
  | .hbm, ⟨40, _⟩ => ⟨S512x512, .i1⟩
  | .hbm, ⟨41, _⟩ => ⟨S_, .i32⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S512x512, .i32⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S512x512, .i1⟩
  | .hbm, ⟨52, _⟩ => ⟨S512x512, .i1⟩
  | .hbm, ⟨53, _⟩ => ⟨S512x512, .bf16⟩
  | .hbm, ⟨54, _⟩ => ⟨S_, .bf16⟩
  | .hbm, ⟨55, _⟩ => ⟨S512x512, .bf16⟩
  | .hbm, ⟨56, _⟩ => ⟨S512x512, .bf16⟩
  | .hbm, ⟨57, _⟩ => ⟨S128x256x256, .f32⟩
  | .hbm, ⟨58, _⟩ => ⟨S2x64x256x256, .f32⟩
  | .local _ .vmem, ⟨0, _⟩ => ⟨S16x512x512, .f32⟩
  | .local _ .vmem, ⟨1, _⟩ => ⟨S16x512x512, .f32⟩
  | .local _ .vmem, ⟨2, _⟩ => ⟨S512x512, .bf16⟩
  | .local _ .vmem, ⟨3, _⟩ => ⟨S512x512, .bf16⟩
  | .local _ .vmem, ⟨4, _⟩ => ⟨S16x256x256, .f32⟩
  | .local _ .vmem, ⟨5, _⟩ => ⟨S16x256x256, .f32⟩
  | _, _ => ⟨S2x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_c_3 : Ref sig .tc := ⟨.hbm, 18, rfl⟩
abbrev main_v13 : Ref sig .tc := ⟨.hbm, 19, rfl⟩
abbrev main_v14 : Ref sig .tc := ⟨.hbm, 20, rfl⟩
abbrev main_c_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_5 : Ref sig .tc := ⟨.hbm, 30, rfl⟩
abbrev main_v23 : Ref sig .tc := ⟨.hbm, 31, rfl⟩
abbrev main_v24 : Ref sig .tc := ⟨.hbm, 32, rfl⟩
abbrev main_c_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_7 : Ref sig .tc := ⟨.hbm, 38, rfl⟩
abbrev main_v29 : Ref sig .tc := ⟨.hbm, 39, rfl⟩
abbrev main_v30 : Ref sig .tc := ⟨.hbm, 40, rfl⟩
abbrev main_c_8 : Ref sig .tc := ⟨.hbm, 41, rfl⟩
abbrev main_v31 : Ref sig .tc := ⟨.hbm, 42, rfl⟩
abbrev main_v32 : Ref sig .tc := ⟨.hbm, 43, rfl⟩
abbrev main_c_9 : Ref sig .tc := ⟨.hbm, 44, rfl⟩
abbrev main_v33 : Ref sig .tc := ⟨.hbm, 45, rfl⟩
abbrev main_v34 : Ref sig .tc := ⟨.hbm, 46, rfl⟩
abbrev main_c_10 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x64x512x512 : Shape := ⟨4, ![2, 64, 512, 512]⟩
abbrev S_ : Shape := ⟨0, ![]⟩
abbrev S2x64x514x514 : Shape := ⟨4, ![2, 64, 514, 514]⟩
abbrev S2x64x256x256 : Shape := ⟨4, ![2, 64, 256, 256]⟩
abbrev S2x64x1x256x256 : Shape := ⟨5, ![2, 64, 1, 256, 256]⟩
abbrev S2x64x9x256x256 : Shape := ⟨5, ![2, 64, 9, 256, 256]⟩
abbrev S2x64x9x1x256x256 : Shape := ⟨6, ![2, 64, 9, 1, 256, 256]⟩
abbrev S2x64x1x9x256x256 : Shape := ⟨6, ![2, 64, 1, 9, 256, 256]⟩
abbrev S2x64x9x9x256x256 : Shape := ⟨6, ![2, 64, 9, 9, 256, 256]⟩
abbrev S2x64x1x256x256x1 : Shape := ⟨6, ![2, 64, 1, 256, 256, 1]⟩
abbrev S1 : Shape := ⟨1, ![1]⟩
abbrev S1x1x1x1x1x1 : Shape := ⟨6, ![1, 1, 1, 1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x64x512x512, .f32⟩
  | .hbm, ⟨1, _⟩ => ⟨S_, .i32⟩
  | .hbm, ⟨2, _⟩ => ⟨S_, .f32⟩
  | .hbm, ⟨3, _⟩ => ⟨S2x64x514x514, .f32⟩
  | .hbm, ⟨4, _⟩ => ⟨S2x64x256x256, .f32⟩
  | .hbm, ⟨5, _⟩ => ⟨S2x64x256x256, .f32⟩
  | .hbm, ⟨6, _⟩ => ⟨S2x64x256x256, .f32⟩
  | .hbm, ⟨7, _⟩ => ⟨S2x64x256x256, .f32⟩
  | .hbm, ⟨8, _⟩ => ⟨S2x64x256x256, .f32⟩
  | .hbm, ⟨9, _⟩ => ⟨S2x64x256x256, .f32⟩
  | .hbm, ⟨10, _⟩ => ⟨S2x64x256x256, .f32⟩
  | .hbm, ⟨11, _⟩ => ⟨S2x64x256x256, .f32⟩
  | .hbm, ⟨12, _⟩ => ⟨S2x64x256x256, .f32⟩
  | .hbm, ⟨13, _⟩ => ⟨S2x64x1x256x256, .f32⟩
  | .hbm, ⟨14, _⟩ => ⟨S2x64x1x256x256, .f32⟩
  | .hbm, ⟨15, _⟩ => ⟨S2x64x1x256x256, .f32⟩
  | .hbm, ⟨16, _⟩ => ⟨S2x64x1x256x256, .f32⟩
  | .hbm, ⟨17, _⟩ => ⟨S2x64x1x256x256, .f32⟩
  | .hbm, ⟨18, _⟩ => ⟨S2x64x1x256x256, .f32⟩
  | .hbm, ⟨19, _⟩ => ⟨S2x64x1x256x256, .f32⟩
  | .hbm, ⟨20, _⟩ => ⟨S2x64x1x256x256, .f32⟩
  | .hbm, ⟨21, _⟩ => ⟨S2x64x1x256x256, .f32⟩
  | .hbm, ⟨22, _⟩ => ⟨S2x64x9x256x256, .f32⟩
  | .hbm, ⟨23, _⟩ => ⟨S2x64x9x256x256, .f32⟩
  | .hbm, ⟨24, _⟩ => ⟨S2x64x9x1x256x256, .f32⟩
  | .hbm, ⟨25, _⟩ => ⟨S2x64x1x9x256x256, .f32⟩
  | .hbm, ⟨26, _⟩ => ⟨S2x64x9x9x256x256, .f32⟩
  | .hbm, ⟨27, _⟩ => ⟨S2x64x9x9x256x256, .f32⟩
  | .hbm, ⟨28, _⟩ => ⟨S2x64x9x9x256x256, .i1⟩
  | .hbm, ⟨29, _⟩ => ⟨S2x64x9x9x256x256, .i32⟩
  | .hbm, ⟨30, _⟩ => ⟨S_, .i32⟩
  | .hbm, ⟨31, _⟩ => ⟨S2x64x9x256x256, .i32⟩
  | .hbm, ⟨32, _⟩ => ⟨S2x64x9x256x256, .i32⟩
  | .hbm, ⟨33, _⟩ => ⟨S_, .i32⟩
  | .hbm, ⟨34, _⟩ => ⟨S_, .i32⟩
  | .hbm, ⟨35, _⟩ => ⟨S2x64x256x256, .i32⟩
  | .hbm, ⟨36, _⟩ => ⟨S2x64x256x256, .i32⟩
  | .hbm, ⟨37, _⟩ => ⟨S2x64x1x256x256, .i32⟩
  | .hbm, ⟨38, _⟩ => ⟨S_, .i32⟩
  | .hbm, ⟨39, _⟩ => ⟨S2x64x1x256x256, .i32⟩
  | .hbm, ⟨40, _⟩ => ⟨S2x64x1x256x256, .i1⟩
  | .hbm, ⟨41, _⟩ => ⟨S_, .i32⟩
  | .hbm, ⟨42, _⟩ => ⟨S2x64x1x256x256, .i32⟩
  | .hbm, ⟨43, _⟩ => ⟨S2x64x1x256x256, .i32⟩
  | .hbm, ⟨44, _⟩ => ⟨S2x64x1x256x256, .i32⟩
  | .hbm, ⟨45, _⟩ => ⟨S2x64x1x256x256x1, .i32⟩
  | .hbm, ⟨46, _⟩ => ⟨S1, .i32⟩
  | .hbm, ⟨47, _⟩ => ⟨S_, .i32⟩
  | .hbm, ⟨48, _⟩ => ⟨S2x64x1x256x256x1, .i32⟩
  | .hbm, ⟨49, _⟩ => ⟨S2x64x1x256x256x1, .i1⟩
  | .hbm, ⟨50, _⟩ => ⟨S1x1x1x1x1x1, .i32⟩
  | .hbm, ⟨51, _⟩ => ⟨S2x64x1x256x256x1, .i32⟩
  | .hbm, ⟨52, _⟩ => ⟨S2x64x1x256x256x1, .i1⟩
  | .hbm, ⟨53, _⟩ => ⟨S2x64x1x256x256x1, .i1⟩
  | .hbm, ⟨54, _⟩ => ⟨S_, .i1⟩
  | .hbm, ⟨55, _⟩ => ⟨S2x64x1x256x256, .i1⟩
  | .hbm, ⟨56, _⟩ => ⟨S2x64x1x256x256, .f32⟩
  | .hbm, ⟨57, _⟩ => ⟨S_, .f32⟩
  | .hbm, ⟨58, _⟩ => ⟨S2x64x1x256x256, .f32⟩
  | .hbm, ⟨59, _⟩ => ⟨S2x64x1x256x256, .f32⟩
  | .hbm, ⟨60, _⟩ => ⟨S2x64x256x256, .f32⟩
  | _, _ => ⟨S2x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_c_0 : Ref sig .tc := ⟨.hbm, 30, rfl⟩
abbrev main_v27 : Ref sig .tc := ⟨.hbm, 31, rfl⟩
abbrev main_call2_v0 : Ref sig .tc := ⟨.hbm, 32, rfl⟩
abbrev main_call2_c : Ref sig .tc := ⟨.hbm, 33, rfl⟩
abbrev main_call2_c_0 : Ref sig .tc := ⟨.hbm, 34, rfl⟩
abbrev main_call2_v1_0 : Ref sig .tc := ⟨.hbm, 35, rfl⟩
abbrev main_v28 : Ref sig .tc := ⟨.hbm, 36, rfl⟩
abbrev main_v29 : Ref sig .tc := ⟨.hbm, 37, rfl⟩
abbrev main_call3_c : Ref sig .tc := ⟨.hbm, 38, rfl⟩
abbrev main_call3_v0 : Ref sig .tc := ⟨.hbm, 39, rfl⟩
abbrev main_call3_v1 : Ref sig .tc := ⟨.hbm, 40, rfl⟩
abbrev main_call3_c_0 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_c_1 : Ref sig .tc := ⟨.hbm, 46, rfl⟩
abbrev main_call3_c_2 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_c_3 : Ref sig .tc := ⟨.hbm, 54, rfl⟩
abbrev main_call3_v12 : Ref sig .tc := ⟨.hbm, 55, rfl⟩
abbrev main_call3_v13 : Ref sig .tc := ⟨.hbm, 56, rfl⟩
abbrev main_call3_cst : Ref sig .tc := ⟨.hbm, 57, rfl⟩
abbrev main_call3_v14 : Ref sig .tc := ⟨.hbm, 58, rfl⟩
abbrev main_v30 : Ref sig .tc := ⟨.hbm, 59, rfl⟩
abbrev main_v31 : Ref sig .tc := ⟨.hbm, 60, rfl⟩

abbrev nD : Nat := 1
abbrev τ : Topo := Topo.v7x

variable {F : FTy → Type} [FloatOps F]
-- ==== Proof.Plane.lean ====
/-
  One image plane of the kernel. The kernel handles sixteen planes per grid point by the same straight line of vector
  operations, written out sixteen times. Here that line is written once, as `plane`, and what the kernel leaves in its
  output block is shown to be `plane` of each of the sixteen input planes in turn (`out_eq`).
-/
module

public import proofs.«01_k».proof.Proof.Gen.KernelIdeal.Frame

@[expose] public section

set_option maxRecDepth 16384

noncomputable section

namespace Cert.KernelIdeal.Plane

open Idealize.ShloMosaic Idealize.SL.Sem
open Cert.KernelIdeal Cert.KernelIdeal.Gen

variable {F : FTy → Type} [FloatOps F]

/-- The product of the row selection `r`, the plane `p` and the column selection `a`, rounded to integers: the plane
    with its even rows and columns first, every value multiplied by four. -/
def scaled (p : Vec F S1x512x512 .f32) (a r : Vec F S512x512 .bf16) : IVec S512x512 32 :=
  fptosi 32 (roundeven (matmul dot_S512x512_S512x512_S512x512_1_0_0_1_n_n none
    (shapeCast S512x512 r shapeCasts_S512x512_S512x512)
    (truncf .bf16
      (matmul dot_S512x512_S512x512_S512x512_1_0_0_1_n_n none
        (truncf .bf16 (shapeCast S512x512 p shapeCasts_S1x512x512_S512x512) bitsLt_bf16_f32)
        (shapeCast S512x512 a shapeCasts_S512x512_S512x512) (constant S512x512 .f32 0x00000000#32))
      bitsLt_bf16_f32)
    (constant S512x512 .f32 0x00000000#32)))

/-- One shifted left by the value's low five bits. -/
def bit (v : IVec S512x512 32) : IVec S512x512 32 :=
  shli (broadcast S512x512 1#32) (andi v (broadcast S512x512 31#32))

/-- The one-hot code of a value below 8, zero for the others. -/
def codeLo (v : IVec S512x512 32) : IVec S512x512 32 :=
  select (cmpi .slt v (broadcast S512x512 32#32)) (bit v) (broadcast S512x512 0#32)

/-- The one-hot code of a value from 8 on, zero for the others. -/
def codeHi (v : IVec S512x512 32) : IVec S512x512 32 :=
  select (cmpi .slt v (broadcast S512x512 32#32)) (broadcast S512x512 0#32) (bit v)

/-- The sum of three horizontal neighbours: the odd column to the left, the even column, the odd column to the right;
    left of the first column stands `fill`. -/
def rowSum (fill : BitVec 32) (e o : IVec S256x256 32) : IVec S256x256 32 :=
  addi (addi (concatenate S256x256 1 [⟨S256x1, broadcast S256x1 fill⟩,
      ⟨S256x255, extractStridedSlice S256x255 ![0, 0] o slices_S256x256_o0_0_S256x255⟩]
      concatenates_S256x1_S256x255_S256x256_d1) e) o

/-- The sum of the three row sums of a window: the odd row above, the even row, the odd row below; above the first row
    stands `fill`. -/
def colSum (fill : BitVec 32) (e o : IVec S256x256 32) : IVec S256x256 32 :=
  addi (addi (concatenate S256x256 0 [⟨S1x256, broadcast S1x256 fill⟩,
      ⟨S255x256, extractStridedSlice S255x256 ![0, 0] o slices_S256x256_o0_0_S255x256⟩]
      concatenates_S1x256_S255x256_S256x256_d0) e) o

/-- The window sums of a plane of codes; `f` is the code of a padding column, `f'` the sum of three such codes. -/
def winSum (f f' : BitVec 32) (c : IVec S512x512 32) : IVec S256x256 32 :=
  colSum f'
    (rowSum f (extractStridedSlice S256x256 ![0, 0] c slices_S512x512_o0_0_S256x256)
      (extractStridedSlice S256x256 ![0, 256] c slices_S512x512_o0_256_S256x256))
    (rowSum f (extractStridedSlice S256x256 ![256, 0] c slices_S512x512_o256_0_S256x256)
      (extractStridedSlice S256x256 ![256, 256] c slices_S512x512_o256_256_S256x256))

/-- A count moved to bits 4 to 7, with `r` in the four bits below it. -/
def tag (w : IVec S256x256 32) (r : BitVec 32) : IVec S256x256 32 :=
  ori (andi w (broadcast S256x256 240#32)) (broadcast S256x256 r)

/-- The lowest count of a word, tagged. -/
def first (w : IVec S256x256 32) (r : BitVec 32) : IVec S256x256 32 := tag (shli w (broadcast S256x256 4#32)) r

/-- The count found `s` bits above bit 4, tagged. -/
def later (w : IVec S256x256 32) (s r : BitVec 32) : IVec S256x256 32 := tag (shrsi w (broadcast S256x256 s)) r

/-- The greatest of the sixteen tagged counts. -/
def best (lo hi : IVec S256x256 32) : IVec S256x256 32 :=
  maxsi (maxsi (maxsi (maxsi (maxsi (maxsi (maxsi (maxsi (maxsi (maxsi (maxsi (maxsi (maxsi (maxsi (maxsi
    (first lo 15#32) (tag lo 14#32)) (later lo 4#32 13#32)) (later lo 8#32 12#32)) (later lo 12#32 11#32))
    (later lo 16#32 10#32)) (later lo 20#32 9#32)) (later lo 24#32 8#32))
    (first hi 7#32)) (tag hi 6#32)) (later hi 4#32 5#32)) (later hi 8#32 4#32)) (later hi 12#32 3#32))
    (later hi 16#32 2#32)) (later hi 20#32 1#32)) (later hi 24#32 0#32)

/-- The value whose tagged count is the greatest: 15 less the tag. -/
def pick (lo hi : IVec S256x256 32) : IVec S256x256 32 :=
  subi (broadcast S256x256 15#32) (andi (best lo hi) (broadcast S256x256 15#32))

/-- The values of one output plane, as integers. -/
def modes (v : IVec S512x512 32) : IVec S256x256 32 :=
  pick (winSum 1#32 3#32 (codeLo v)) (winSum 0#32 0#32 (codeHi v))

/-- One output plane from one input plane and the two selections. -/
def plane (p : Vec F S1x512x512 .f32) (a r : Vec F S512x512 .bf16) : FVec F S1x256x256 .f32 :=
  shapeCast S1x256x256 (sitofp .f32 (modes (scaled p a r)) : FVec F S256x256 .f32) shapeCasts_S256x256_S1x256x256

/-- What the kernel's body leaves in its output block: its sixteen stores, each `plane` of one input plane. -/
theorem out_eq (x0 : Vec F S16x512x512 .f32) (x1 x2 : Vec F S512x512 .bf16) :
    out0_3 x0 x1 x2 = View.canon (
      [⟨r0_32, plane (View.ld x0 r0_31) (View.ld x1 r0_1) (View.ld x2 r0_1)⟩,
       ⟨r0_30, plane (View.ld x0 r0_29) (View.ld x1 r0_1) (View.ld x2 r0_1)⟩,
       ⟨r0_28, plane (View.ld x0 r0_27) (View.ld x1 r0_1) (View.ld x2 r0_1)⟩,
       ⟨r0_26, plane (View.ld x0 r0_25) (View.ld x1 r0_1) (View.ld x2 r0_1)⟩,
       ⟨r0_24, plane (View.ld x0 r0_23) (View.ld x1 r0_1) (View.ld x2 r0_1)⟩,
       ⟨r0_22, plane (View.ld x0 r0_21) (View.ld x1 r0_1) (View.ld x2 r0_1)⟩,
       ⟨r0_20, plane (View.ld x0 r0_19) (View.ld x1 r0_1) (View.ld x2 r0_1)⟩,
       ⟨r0_18, plane (View.ld x0 r0_17) (View.ld x1 r0_1) (View.ld x2 r0_1)⟩,
       ⟨r0_16, plane (View.ld x0 r0_15) (View.ld x1 r0_1) (View.ld x2 r0_1)⟩,
       ⟨r0_14, plane (View.ld x0 r0_13) (View.ld x1 r0_1) (View.ld x2 r0_1)⟩,
       ⟨r0_12, plane (View.ld x0 r0_11) (View.ld x1 r0_1) (View.ld x2 r0_1)⟩,
       ⟨r0_10, plane (View.ld x0 r0_9) (View.ld x1 r0_1) (View.ld x2 r0_1)⟩,
       ⟨r0_8, plane (View.ld x0 r0_7) (View.ld x1 r0_1) (View.ld x2 r0_1)⟩,
       ⟨r0_6, plane (View.ld x0 r0_5) (View.ld x1 r0_1) (View.ld x2 r0_1)⟩,
       ⟨r0_4, plane (View.ld x0 r0_3) (View.ld x1 r0_1) (View.ld x2 r0_1)⟩,
       ⟨r0_2, plane (View.ld x0 r0_0) (View.ld x1 r0_1) (View.ld x2 r0_1)⟩] : List (View.Piece (Elt F) S16x256x256 .f32)) := rfl

end Cert.KernelIdeal.Plane

end
-- ==== Proof.Mode.lean ====
/-
  The mode of nine natural numbers, ties to the smallest: its definition by one maximum over tagged counts, the condition
  that pins it down, and how it is found in the sorted list.
-/
module

public import Idealize.ShloMosaic.PureOps
public import Mathlib.Tactic.IntervalCases

@[expose] public section

namespace Cert.Mode

/-- How often `u` occurs in the window `w`. -/
def count (w : Fin 9 → ℕ) (u : ℕ) : ℕ := (Finset.univ.filter fun k => w k = u).card

/-- The count of `u` times sixteen, plus a tag that is larger for a smaller `u`. -/
def score (w : Fin 9 → ℕ) (u : ℕ) : ℕ := 16 * count w u + (15 - u)

/-- The greatest score over the values 0 to 15. -/
def top (w : Fin 9 → ℕ) : ℕ := (Finset.range 16).sup (score w)

/-- The mode of the window, ties to the smallest value: what the greatest score's tag says. -/
def mode (w : Fin 9 → ℕ) : ℕ := 15 - top w % 16

/-- A count is at most nine. -/
theorem count_le (w : Fin 9 → ℕ) (u : ℕ) : count w u ≤ 9 :=
  (Finset.card_filter_le _ _).trans (by simp)

/-- A value that occurs at least as often as any other, and more often than every smaller one, is the mode. -/
theorem mode_eq (w : Fin 9 → ℕ) (m : ℕ) (hm : m < 16)
    (h : ∀ u < 16, count w u ≤ count w m ∧ (u < m → count w u < count w m)) : mode w = m := by
  have ht : top w = score w m := by
    apply le_antisymm
    · refine Finset.sup_le fun u hu => ?_
      have hu := Finset.mem_range.mp hu
      obtain ⟨h1, h2⟩ := h u hu
      unfold score
      by_cases hlt : u < m
      · have := h2 hlt; omega
      · omega
    · exact Finset.le_sup (f := score w) (Finset.mem_range.mpr hm)
  unfold mode
  rw [ht]
  unfold score
  omega

/-- The mode is at most fifteen. -/
theorem mode_lt (w : Fin 9 → ℕ) : mode w < 16 := by unfold mode; omega

/-- In the window sorted upwards, the value at the first position whose value occurs most often is the mode. -/
theorem mode_sorted (w s : Fin 9 → ℕ) (hs : Monotone s) (hc : ∀ u, count s u = count w u) (hb : ∀ k, s k < 16)
    (a : Fin 9) (hmax : ∀ k, count s (s k) ≤ count s (s a)) (hfirst : ∀ k < a, count s (s k) < count s (s a)) :
    mode w = s a := by
  refine mode_eq w (s a) (hb a) fun u _ => ?_
  rw [← hc, ← hc]
  have hpos : 0 < count s (s a) := Finset.card_pos.mpr ⟨a, by simp⟩
  by_cases hu : ∃ k, s k = u
  · obtain ⟨k, rfl⟩ := hu
    refine ⟨hmax k, fun hlt => hfirst k ?_⟩
    by_contra hn
    exact absurd (hs (not_lt.mp hn)) (not_le.mpr hlt)
  · have h0 : count s u = 0 := by
      unfold count
      rw [Finset.card_eq_zero, Finset.filter_eq_empty_iff]
      exact fun k _ hk => hu ⟨k, hk⟩
    omega

/-- Rearranging a window does not change the counts. -/
theorem count_comp (w : Fin 9 → ℕ) (σ : Fin 9 → Fin 9) (hσ : Function.Bijective σ) (u : ℕ) :
    count (fun k => w (σ k)) u = count w u := by
  unfold count
  refine Finset.card_bij (fun k _ => σ k) (fun k hk => ?_) (fun _ _ _ _ h => hσ.1 h) fun k hk => ?_
  · simpa using hk
  · obtain ⟨l, rfl⟩ := hσ.2 k
    exact ⟨l, by simpa using hk, rfl⟩

end Cert.Mode
-- ==== Proof.Counts.lean ====
/-
  The packed counts. Every value 0 to 15 has a one-hot code of eight four-bit fields in one of two 32-bit words; the sum
  of nine codes holds the nine values' counts in those fields, and the greatest of the sixteen counts, each moved to the
  same place and tagged with 15 less its value, names the mode.
-/
module

public import proofs.«01_k».proof.Proof.Mode
public import Idealize.ShloMosaic.PureOps

@[expose] public section

namespace Cert.Counts

open Cert.Mode Idealize.ShloMosaic

/-- The low word's code of a value, as a number. -/
def lo (v : ℕ) : ℕ := if v < 8 then 16 ^ v else 0

/-- The high word's code of a value, as a number. -/
def hi (v : ℕ) : ℕ := if v < 8 then 0 else 16 ^ (v - 8)

/-- The word the kernel makes of a value below 16 times four: one shifted left by its low five bits. -/
theorem bit_word : ∀ v < 16, IntOp.shli .vector 1#32 (IntOp.andi (BitVec.ofNat 32 (4 * v)) 31#32)
    = BitVec.ofNat 32 (lo v + hi v) := by decide +kernel

/-- The low word's code is chosen for a value below 8. -/
theorem lo_word : ∀ v < 16, Scalar.select (IntOp.cmpi .slt (BitVec.ofNat 32 (4 * v)) 32#32)
    (IntOp.shli .vector 1#32 (IntOp.andi (BitVec.ofNat 32 (4 * v)) 31#32)) 0#32 = BitVec.ofNat 32 (lo v) := by decide +kernel

/-- The high word's code is chosen for a value from 8 on. -/
theorem hi_word : ∀ v < 16, Scalar.select (IntOp.cmpi .slt (BitVec.ofNat 32 (4 * v)) 32#32) 0#32
    (IntOp.shli .vector 1#32 (IntOp.andi (BitVec.ofNat 32 (4 * v)) 31#32)) = BitVec.ofNat 32 (hi v) := by decide +kernel

/-- The sum over a window of a code that is a number `g u` for the value `o + u` and zero for values outside `o .. o + 7`:
    the counts times those numbers. -/
theorem sum_code (w : Fin 9 → ℕ) (f g : ℕ → ℕ) (o : ℕ)
    (hf : ∀ v < 16, f v = ∑ u ∈ Finset.range 8, if v = o + u then g u else 0) (hw : ∀ k, w k < 16) :
    ∑ k, f (w k) = ∑ u ∈ Finset.range 8, count w (o + u) * g u := by
  calc ∑ k, f (w k) = ∑ k, ∑ u ∈ Finset.range 8, if w k = o + u then g u else 0 :=
        Finset.sum_congr rfl fun k _ => hf _ (hw k)
    _ = ∑ u ∈ Finset.range 8, ∑ k, if w k = o + u then g u else 0 := Finset.sum_comm
    _ = _ := Finset.sum_congr rfl fun u _ => by
        rw [← Finset.sum_filter, Finset.sum_const, smul_eq_mul, count]

/-- The low words' sum holds the counts of 0 to 7. -/
theorem sum_lo (w : Fin 9 → ℕ) (hw : ∀ k, w k < 16) :
    ∑ k, lo (w k) = ∑ u ∈ Finset.range 8, count w (0 + u) * 16 ^ u :=
  sum_code w lo (16 ^ ·) 0 (by decide +kernel) hw

/-- The high words' sum holds the counts of 8 to 15. -/
theorem sum_hi (w : Fin 9 → ℕ) (hw : ∀ k, w k < 16) :
    ∑ k, hi (w k) = ∑ u ∈ Finset.range 8, count w (8 + u) * 16 ^ u :=
  sum_code w hi (16 ^ ·) 8 (by decide +kernel) hw

/-- The word holding eight counts below 16. -/
def pack (c : ℕ → ℕ) : BitVec 32 := BitVec.ofNat 32 (∑ u ∈ Finset.range 8, c u * 16 ^ u)

/-- The packed word as a number. -/
theorem pack_toNat (c : ℕ → ℕ) (hc : ∀ u, c u ≤ 9) : (pack c).toNat = ∑ u ∈ Finset.range 8, c u * 16 ^ u := by
  unfold pack
  rw [BitVec.toNat_ofNat, Nat.mod_eq_of_lt]
  have h0 := hc 0; have h1 := hc 1; have h2 := hc 2; have h3 := hc 3
  have h4 := hc 4; have h5 := hc 5; have h6 := hc 6; have h7 := hc 7
  simp only [Finset.sum_range_succ, Finset.sum_range_zero]
  omega

/-- The four-bit field `u` of the packed word is count `u`. -/
theorem pack_field (c : ℕ → ℕ) (hc : ∀ u, c u ≤ 9) (u : ℕ) (hu : u < 8) : (pack c).toNat / 16 ^ u % 16 = c u := by
  rw [pack_toNat c hc]
  have h0 := hc 0; have h1 := hc 1; have h2 := hc 2; have h3 := hc 3
  have h4 := hc 4; have h5 := hc 5; have h6 := hc 6; have h7 := hc 7
  simp only [Finset.sum_range_succ, Finset.sum_range_zero]
  interval_cases u <;> omega

/-- Bits 4 to 7 of a number, over a tag below 16. -/
theorem nat_tag (n r : ℕ) (hr : r < 16) : (n &&& 240) ||| r = 16 * (n / 16 % 16) + r := by
  have h : n &&& 240 = 2 ^ 4 * (n / 16 % 16) := by
    have e : (240 : ℕ) = (2 ^ 4 - 1) <<< 4 := by decide
    apply Nat.eq_of_testBit_eq
    intro i
    rw [Nat.testBit_and, e, Nat.testBit_shiftLeft, Nat.testBit_two_pow_mul,
      show (16 : ℕ) = 2 ^ 4 from rfl, Nat.testBit_mod_two_pow, Nat.testBit_div_two_pow, Nat.testBit_two_pow_sub_one]
    by_cases h4 : 4 ≤ i
    · simp only [h4, decide_true, Bool.true_and, Nat.sub_add_cancel h4]
      rw [Bool.and_comm]
    · simp [h4]
  rw [h, show (16 : ℕ) = 2 ^ 4 from rfl, Nat.two_pow_add_eq_or_of_lt (by simpa using hr)]

/-- The tagged field of a word, as a number. -/
theorem tag_toNat (w r : BitVec 32) (hr : r.toNat < 16) :
    (IntOp.ori (IntOp.andi w 240#32) r).toNat = 16 * (w.toNat / 16 % 16) + r.toNat := by
  unfold IntOp.ori IntOp.andi
  rw [BitVec.toNat_or, BitVec.toNat_and]
  exact nat_tag _ _ hr

/-- An arithmetic shift right by at most 24 keeps bits 4 to 7 those of the number shifted. -/
theorem shr_field (w : BitVec 32) (s : ℕ) (hs : s ≤ 24) :
    (w.sshiftRight s).toNat / 16 % 16 = w.toNat / 2 ^ s / 16 % 16 := by
  apply Nat.eq_of_testBit_eq
  intro i
  rw [show (16 : ℕ) = 2 ^ 4 from rfl, Nat.testBit_mod_two_pow, Nat.testBit_mod_two_pow, Nat.testBit_div_two_pow,
    Nat.testBit_div_two_pow, Nat.testBit_div_two_pow, BitVec.testBit_toNat, BitVec.testBit_toNat, BitVec.getLsbD_sshiftRight]
  by_cases h : i < 4
  · have h1 : ¬ 32 ≤ i + 4 := by omega
    have h2 : s + (i + 4) < 32 := by omega
    simp only [h, decide_true, Bool.true_and, h1, h2, decide_false, Bool.not_false, if_true]
    congr 1; omega
  · simp [h]

/-- Field `u` of the packed counts brought to bits 4 to 7 and tagged. -/
theorem later_toNat (c : ℕ → ℕ) (hc : ∀ u, c u ≤ 9) (u : ℕ) (hu : u < 6) (s r : BitVec 32) (hs : s.toNat = 4 * (u + 1))
    (hr : r.toNat < 16) :
    (IntOp.ori (IntOp.andi (IntOp.shrsi .vector (pack c) s) 240#32) r).toNat = 16 * c (u + 2) + r.toNat := by
  rw [tag_toNat _ _ hr]
  unfold IntOp.shrsi
  rw [if_pos (by omega), BitVec.sshiftRight', shr_field _ _ (by omega), hs, ← pack_field c hc (u + 2) (by omega),
    Nat.div_div_eq_div_mul]
  have e : 2 ^ (4 * (u + 1)) * 16 = 16 ^ (u + 2) := by
    rw [show (16 : ℕ) = 2 ^ 4 from rfl, ← pow_mul, ← pow_add]; congr 1
  rw [e]

/-- Field 1 of the packed counts stands at bits 4 to 7 already. -/
theorem second_toNat (c : ℕ → ℕ) (hc : ∀ u, c u ≤ 9) (r : BitVec 32) (hr : r.toNat < 16) :
    (IntOp.ori (IntOp.andi (pack c) 240#32) r).toNat = 16 * c 1 + r.toNat := by
  rw [tag_toNat _ _ hr, ← pack_field c hc 1 (by omega), pow_one]

/-- Field 0 of the packed counts is shifted left into place. -/
theorem first_toNat (c : ℕ → ℕ) (hc : ∀ u, c u ≤ 9) (r : BitVec 32) (hr : r.toNat < 16) :
    (IntOp.ori (IntOp.andi (IntOp.shli .vector (pack c) 4#32) 240#32) r).toNat = 16 * c 0 + r.toNat := by
  rw [tag_toNat _ _ hr, ← pack_field c hc 0 (by omega)]
  unfold IntOp.shli
  rw [if_pos (by decide)]
  have : (pack c <<< 4#32).toNat = (pack c).toNat * 16 % 2 ^ 32 := by
    rw [BitVec.shiftLeft_eq', BitVec.toNat_shiftLeft, Nat.shiftLeft_eq]; rfl
  rw [this]
  omega

/-- The signed maximum of two words below 2^31. -/
theorem maxsi_toNat (x y : BitVec 32) (hx : x.toNat < 2 ^ 31) (hy : y.toNat < 2 ^ 31) :
    (IntOp.maxsi x y).toNat = max x.toNat y.toNat := by
  unfold IntOp.maxsi
  have hx' : x.toInt = x.toNat := BitVec.toInt_eq_toNat_of_lt (by omega)
  have hy' : y.toInt = y.toNat := BitVec.toInt_eq_toNat_of_lt (by omega)
  have e : y.slt x = true ↔ y.toNat < x.toNat := by
    rw [BitVec.slt_iff_toInt_lt, hx', hy']; exact_mod_cast Iff.rfl
  by_cases h : y.toNat < x.toNat
  · rw [if_pos (e.mpr h), max_eq_left h.le]
  · rw [if_neg (mt e.mp h), max_eq_right (by omega)]

/-- One more score under the maximum: while the words stay small it is the maximum of numbers. -/
theorem max_step (x y : BitVec 32) (a b : ℕ) (hx : x.toNat = a) (hy : y.toNat = b) (ha : a < 160) (hb : b < 160) :
    (IntOp.maxsi x y).toNat = max a b ∧ max a b < 160 := by
  subst hx hy
  exact ⟨maxsi_toNat x y (by omega) (by omega), max_lt ha hb⟩

/-- A tagged count of a word. -/
def tagWord (w r : BitVec 32) : BitVec 32 := IntOp.ori (IntOp.andi w 240#32) r

/-- The tagged counts of one word, field by field; `r` gives the tags. -/
def fieldWord (w : BitVec 32) (r : ℕ → BitVec 32) : ℕ → BitVec 32
  | 0 => tagWord (IntOp.shli .vector w 4#32) (r 0)
  | 1 => tagWord w (r 1)
  | u + 2 => tagWord (IntOp.shrsi .vector w (BitVec.ofNat 32 (4 * (u + 1)))) (r (u + 2))

/-- The running maximum of the first fields of a word, from a starting word. -/
def maxFields (w : BitVec 32) (r : ℕ → BitVec 32) (b : BitVec 32) : ℕ → BitVec 32
  | 0 => b
  | n + 1 => IntOp.maxsi (maxFields w r b n) (fieldWord w r n)

/-- The greatest tagged count of two words: the low one's fields in turn, then the high one's. -/
def bestWord (l h : BitVec 32) : BitVec 32 :=
  maxFields h (fun u => BitVec.ofNat 32 (7 - u))
    (IntOp.maxsi (IntOp.maxsi (IntOp.maxsi (IntOp.maxsi (IntOp.maxsi (IntOp.maxsi (IntOp.maxsi
      (fieldWord l (fun u => BitVec.ofNat 32 (15 - u)) 0) (fieldWord l (fun u => BitVec.ofNat 32 (15 - u)) 1))
      (fieldWord l (fun u => BitVec.ofNat 32 (15 - u)) 2)) (fieldWord l (fun u => BitVec.ofNat 32 (15 - u)) 3))
      (fieldWord l (fun u => BitVec.ofNat 32 (15 - u)) 4)) (fieldWord l (fun u => BitVec.ofNat 32 (15 - u)) 5))
      (fieldWord l (fun u => BitVec.ofNat 32 (15 - u)) 6)) (fieldWord l (fun u => BitVec.ofNat 32 (15 - u)) 7)) 8

/-- Each field of the packed counts, tagged, is sixteen times the count plus the tag. -/
theorem fieldWord_toNat (c : ℕ → ℕ) (hc : ∀ u, c u ≤ 9) (r : ℕ → BitVec 32) (hr : ∀ u, (r u).toNat < 16) :
    ∀ u < 8, (fieldWord (pack c) r u).toNat = 16 * c u + (r u).toNat
  | 0, _ => first_toNat c hc _ (hr 0)
  | 1, _ => second_toNat c hc _ (hr 1)
  | u + 2, hu => later_toNat c hc u (by omega) _ _ (by rw [BitVec.toNat_ofNat]; omega) (hr _)

/-- The running maximum as a maximum of numbers. -/
theorem maxFields_toNat (c : ℕ → ℕ) (hc : ∀ u, c u ≤ 9) (r : ℕ → BitVec 32) (hr : ∀ u, (r u).toNat < 16)
    (b : BitVec 32) (hb : b.toNat < 160) : ∀ n ≤ 8,
    (maxFields (pack c) r b n).toNat = max b.toNat ((Finset.range n).sup fun u => 16 * c u + (r u).toNat)
      ∧ (maxFields (pack c) r b n).toNat < 160
  | 0, _ => by simp [maxFields, hb]
  | n + 1, hn => by
    obtain ⟨h1, h2⟩ := maxFields_toNat c hc r hr b hb n (by omega)
    have h3 := fieldWord_toNat c hc r hr n (by omega)
    have h4 := hc n
    have h5 := hr n
    obtain ⟨h6, h7⟩ := max_step _ _ _ _ rfl h3 h2 (by omega)
    refine ⟨?_, by rw [maxFields, h6]; exact h7⟩
    rw [maxFields, h6, h1, Finset.range_add_one, Finset.sup_insert]
    simp only [max_assoc]
    congr 1
    exact max_comm _ _

/-- Every word is its own first field under the maximum: the low word's chain is a running maximum from its first field. -/
theorem bestWord_eq (l h : BitVec 32) (hl : IntOp.maxsi (fieldWord l (fun u => BitVec.ofNat 32 (15 - u)) 0)
      (fieldWord l (fun u => BitVec.ofNat 32 (15 - u)) 0) = fieldWord l (fun u => BitVec.ofNat 32 (15 - u)) 0) :
    bestWord l h = maxFields h (fun u => BitVec.ofNat 32 (7 - u))
      (maxFields l (fun u => BitVec.ofNat 32 (15 - u)) (fieldWord l (fun u => BitVec.ofNat 32 (15 - u)) 0) 8) 8 := by
  unfold bestWord
  simp only [maxFields, hl]

/-- The signed maximum of a word with itself. -/
theorem maxsi_self (x : BitVec 32) : IntOp.maxsi x x = x := by unfold IntOp.maxsi; split <;> rfl

/-- The greatest tagged count of the two packed words is the window's greatest score. -/
theorem bestWord_top (w : Fin 9 → ℕ) :
    (bestWord (pack fun u => count w (0 + u)) (pack fun u => count w (8 + u))).toNat = top w := by
  have hr : ∀ u, (BitVec.ofNat 32 (15 - u)).toNat < 16 := fun u => by rw [BitVec.toNat_ofNat]; omega
  have hr' : ∀ u, (BitVec.ofNat 32 (7 - u)).toNat < 16 := fun u => by rw [BitVec.toNat_ofNat]; omega
  have hc : ∀ u, count w (0 + u) ≤ 9 := fun u => count_le w _
  have hc' : ∀ u, count w (8 + u) ≤ 9 := fun u => count_le w _
  rw [bestWord_eq _ _ (maxsi_self _)]
  have h0 := fieldWord_toNat _ hc _ hr 0 (by omega)
  have hb : (fieldWord (pack fun u => count w (0 + u)) (fun u => BitVec.ofNat 32 (15 - u)) 0).toNat < 160 := by
    have := hc 0; have := hr 0; omega
  obtain ⟨h1, h2⟩ := maxFields_toNat _ hc _ hr _ hb 8 le_rfl
  obtain ⟨h3, -⟩ := maxFields_toNat _ hc' _ hr' _ h2 8 le_rfl
  rw [h3, h1, h0]
  have e1 : ∀ u ∈ Finset.range 8, 16 * count w (0 + u) + (BitVec.ofNat 32 (15 - u)).toNat = score w u := fun u hu => by
    rw [BitVec.toNat_ofNat, Nat.zero_add, score]; omega
  have e2 : ∀ u ∈ Finset.range 8, 16 * count w (8 + u) + (BitVec.ofNat 32 (7 - u)).toNat = score w (8 + u) := fun u hu => by
    rw [BitVec.toNat_ofNat, score]; omega
  rw [Finset.sup_congr rfl e1, Finset.sup_congr rfl e2, e1 0 (by simp)]
  have e3 : score w 0 ≤ (Finset.range 8).sup (score w) := Finset.le_sup (f := score w) (by simp)
  rw [max_eq_right e3]
  unfold top
  apply le_antisymm
  · refine max_le (Finset.sup_mono (by simp)) (Finset.sup_le fun u hu => ?_)
    exact Finset.le_sup (f := score w) (by simp at hu ⊢; omega)
  · refine Finset.sup_le fun u hu => ?_
    by_cases h : u < 8
    · exact le_max_of_le_left (Finset.le_sup (f := score w) (by simpa using h))
    · refine le_max_of_le_right ?_
      have e4 : score w u = score w (8 + (u - 8)) := by rw [Nat.add_sub_cancel' (not_lt.mp h)]
      have hu := Finset.mem_range.mp hu
      rw [e4]
      exact Finset.le_sup (f := fun u => score w (8 + u)) (Finset.mem_range.mpr (by omega : u - 8 < 8))

/-- The mode out of the two packed words: 15 less the low four bits of the greatest tagged count. -/
theorem pick_word (w : Fin 9 → ℕ) :
    IntOp.subi 15#32 (IntOp.andi (bestWord (pack fun u => count w (0 + u)) (pack fun u => count w (8 + u))) 15#32)
      = BitVec.ofNat 32 (mode w) := by
  apply BitVec.eq_of_toNat_eq
  have h : (IntOp.andi (bestWord (pack fun u => count w (0 + u)) (pack fun u => count w (8 + u))) 15#32).toNat
      = top w % 16 := by
    unfold IntOp.andi
    rw [BitVec.toNat_and, bestWord_top]
    exact Nat.and_two_pow_sub_one_eq_mod _ 4
  unfold IntOp.subi
  rw [BitVec.toNat_sub, h, BitVec.toNat_ofNat, BitVec.toNat_ofNat]
  unfold mode
  omega

end Cert.Counts
-- ==== Proof.Window.lean ====
/-
  What both programs compute, over natural numbers: the nine values of a padded, strided window of a plane, whose mode
  (`Cert.Mode.mode`) is the result.
-/
module

public import proofs.«01_k».proof.Proof.Mode
public import Idealize.ShloMosaic.Lib.Pointwise

@[expose] public section

noncomputable section

namespace Cert.Window

open Idealize.ShloMosaic

/-- The natural number an extended real is, if it is one. -/
def val (e : EReal) : ℕ := ⌊e.toReal⌋₊

/-- Every element is one of the numbers 0 to 15. -/
def Small {s : Shape} (x : s.Idx → EReal) : Prop := ∀ i, x i = ((val (x i) : ℝ) : EReal) ∧ val (x i) < 16

/-- A plane with a row and a column of zeros before it, counted from that row and column. -/
def cell (p : Fin 512 → Fin 512 → ℕ) (r c : ℕ) : ℕ :=
  if h : (0 < r ∧ r - 1 < 512) ∧ (0 < c ∧ c - 1 < 512) then p ⟨r - 1, h.1.2⟩ ⟨c - 1, h.2.2⟩ else 0

/-- The nine values of the window at `(i, j)`, row by row. -/
def win (p : Fin 512 → Fin 512 → ℕ) (i j : Fin 256) (k : Fin 9) : ℕ :=
  cell p (2 * i.val + k.val / 3) (2 * j.val + k.val % 3)

/-- Plane `c` of image `n` as natural numbers. -/
def img (x : (⟨4, ![2, 64, 512, 512]⟩ : Shape).Idx → EReal) (n : Fin 2) (c : Fin 64) : Fin 512 → Fin 512 → ℕ :=
  fun r s => val (x (ix4 n c r s))

/-- A window of a plane of small numbers holds small numbers. -/
theorem win_lt (p : Fin 512 → Fin 512 → ℕ) (hp : ∀ r s, p r s < 16) (i j : Fin 256) (k : Fin 9) : win p i j k < 16 := by
  unfold win cell
  split
  · exact hp _ _
  · omega

/-- The planes of small images hold small numbers. -/
theorem img_lt (x : (⟨4, ![2, 64, 512, 512]⟩ : Shape).Idx → EReal) (hx : Small x) (n : Fin 2) (c : Fin 64) (r s : Fin 512) :
    img x n c r s < 16 := (hx _).2

/-- What both programs return. -/
def answer (x : (⟨4, ![2, 64, 512, 512]⟩ : Shape).Idx → EReal) : (⟨4, ![2, 64, 256, 256]⟩ : Shape).Idx → EReal :=
  fun i => ((Mode.mode (win (img x (i 0) (i 1)) (i 2) (i 3)) : ℝ) : EReal)

end Cert.Window

end
-- ==== Proof.PlaneVal.lean ====
/-
  One output plane of the kernel as a function of its input plane: the mode of every window, for a plane of the numbers
  0 to 15 and the two selections that put even rows and columns first.
-/
module

public import proofs.«01_k».proof.Proof.Plane
public import proofs.«01_k».proof.Proof.Counts
public import proofs.«01_k».proof.Proof.Window

@[expose] public section

noncomputable section

namespace Cert.KernelIdeal.Plane

open Idealize.ShloMosaic Cert.KernelIdeal Cert.KernelIdeal.Gen Cert.Window Cert.Counts
open scoped BigOperators

/-- The line that stands at position `k` once the even ones are put first. -/
def sel (k : Fin 512) : Fin 512 :=
  ⟨if k.val < 256 then 2 * k.val else 2 * (k.val - 256) + 1, by have := k.isLt; split <;> omega⟩

/-- A product of two matrices added to zeros, at an index. -/
theorem dot_apply (l r : S512x512.Idx → EReal) (i j : Fin 512) :
    matmul (F := Ideal) (φ₁ := .bf16) (φ₂ := .bf16) dot_S512x512_S512x512_S512x512_1_0_0_1_n_n none l r
      (constant S512x512 .f32 0x00000000#32) (ix2 i j) = ∑ k : Fin 512, l (ix2 i k) * r (ix2 k j) := by
  pointwise

/-- A sum of products with a single nonzero second factor. -/
theorem sum_right (f : Fin 512 → EReal) (s : Fin 512) : (∑ k, f k * (if k = s then (1 : EReal) else 0)) = f s := by
  rw [Finset.sum_eq_single s]
  · rw [if_pos rfl, mul_one]
  · intro k _ h
    rw [if_neg h, mul_zero]
  · intro h
    exact absurd (Finset.mem_univ s) h

/-- A sum of products with a single nonzero first factor. -/
theorem sum_left (f : Fin 512 → EReal) (s : Fin 512) (z : EReal) : (∑ k, (if k = s then z else 0) * f k) = z * f s := by
  rw [Finset.sum_eq_single s]
  · rw [if_pos rfl]
  · intro k _ h
    rw [if_neg h, zero_mul]
  · intro h
    exact absurd (Finset.mem_univ s) h

/-- A small natural number rounded and read as a word is that number's word. -/
theorem word_of_nat (m : ℕ) (hm : m < 64) :
    Ideal.fptosi 32 (Ideal.liftRound Ideal.roundHalfEven ((m : ℝ) : EReal)) = BitVec.ofNat 32 m := by
  have h1 : Ideal.roundHalfEven (m : ℝ) = (m : ℤ) := by
    unfold Ideal.roundHalfEven
    simp
  rw [Ideal.liftRound_coe, h1]
  unfold Ideal.fptosi
  rw [Ideal.toIntClamped_coe]
  have h2 : (if (0 : ℝ) ≤ (((m : ℤ) : ℝ)) then ⌊((m : ℤ) : ℝ)⌋ else ⌈((m : ℤ) : ℝ)⌉) = (m : ℤ) := by
    rw [Int.floor_intCast, Int.ceil_intCast, ite_self]
  rw [h2]
  have h3 : max (-(2 ^ (32 - 1)) : ℤ) (min (2 ^ (32 - 1) - 1) (m : ℤ)) = (m : ℤ) := by omega
  refine (congrArg (BitVec.ofInt 32) h3).trans ?_
  exact BitVec.ofInt_natCast 32 m

/-- The scaled plane at an index: four times the value at the selected row and column. -/
theorem scaled_apply (p : S1x512x512.Idx → EReal) (a r : S512x512.Idx → EReal) (v : Fin 512 → Fin 512 → ℕ)
    (hv : ∀ i j, v i j < 16) (hp : ∀ i j, p (ix3 0 i j) = ((v i j : ℝ) : EReal))
    (ha : ∀ i j, a (ix2 i j) = if i = sel j then (1 : EReal) else 0)
    (hr : ∀ i j, r (ix2 i j) = if j = sel i then ((4 : ℝ) : EReal) else 0) (i j : Fin 512) :
    scaled (F := Ideal) p a r (ix2 i j) = BitVec.ofNat 32 (4 * v (sel i) (sel j)) := by
  have e1 : ∀ i j, matmul (F := Ideal) (φ₁ := .bf16) (φ₂ := .bf16) dot_S512x512_S512x512_S512x512_1_0_0_1_n_n none
      (truncf (F := Ideal) .bf16 (shapeCast S512x512 p shapeCasts_S1x512x512_S512x512 : FVec Ideal S512x512 .f32) bitsLt_bf16_f32)
      (shapeCast S512x512 a shapeCasts_S512x512_S512x512) (constant S512x512 .f32 0x00000000#32) (ix2 i j)
      = ((v i (sel j) : ℝ) : EReal) := by
    intro i j
    rw [dot_apply]
    have e : ∀ k : Fin 512, (truncf (F := Ideal) .bf16 (shapeCast S512x512 p shapeCasts_S1x512x512_S512x512 : FVec Ideal S512x512 .f32) bitsLt_bf16_f32) (ix2 i k)
        * (shapeCast S512x512 a shapeCasts_S512x512_S512x512) (ix2 k j)
        = ((v i k : ℝ) : EReal) * (if k = sel j then (1 : EReal) else 0) := by
      intro k
      rw [← hp, ← ha]
      pointwise
    rw [Finset.sum_congr rfl (fun k _ => e k), sum_right]
  have e2 : ∀ y : S512x512.Idx → EReal, matmul (F := Ideal) (φ₁ := .bf16) (φ₂ := .bf16) dot_S512x512_S512x512_S512x512_1_0_0_1_n_n none
      (shapeCast S512x512 r shapeCasts_S512x512_S512x512) y (constant S512x512 .f32 0x00000000#32) (ix2 i j)
      = ((4 : ℝ) : EReal) * y (ix2 (sel i) j) := by
    intro y
    rw [dot_apply]
    have e : ∀ k : Fin 512, (shapeCast S512x512 r shapeCasts_S512x512_S512x512) (ix2 i k) * y (ix2 k j)
        = (if k = sel i then ((4 : ℝ) : EReal) else 0) * y (ix2 k j) := by
      intro k
      rw [← hr]
      pointwise
    rw [Finset.sum_congr rfl (fun k _ => e k), sum_left (fun k => y (ix2 k j))]
  have h := e2 (truncf (F := Ideal) .bf16 (matmul (F := Ideal) (φ₁ := .bf16) (φ₂ := .bf16) dot_S512x512_S512x512_S512x512_1_0_0_1_n_n none
      (truncf (F := Ideal) .bf16 (shapeCast S512x512 p shapeCasts_S1x512x512_S512x512 : FVec Ideal S512x512 .f32) bitsLt_bf16_f32)
      (shapeCast S512x512 a shapeCasts_S512x512_S512x512) (constant S512x512 .f32 0x00000000#32)) bitsLt_bf16_f32)
  have h' : ((4 : ℝ) : EReal) * ((v (sel i) (sel j) : ℝ) : EReal) = (((4 * v (sel i) (sel j) : ℕ) : ℝ) : EReal) := by
    rw [← EReal.coe_mul]
    push_cast
    rfl
  refine (congrArg (fun z => Ideal.fptosi 32 (Ideal.liftRound Ideal.roundHalfEven z))
    (h.trans ((congrArg (((4 : ℝ) : EReal) * ·) (e1 (sel i) j)).trans h'))).trans ?_
  have := hv (sel i) (sel j)
  exact word_of_nat _ (by omega)

/-- The low code of the scaled plane at an index. -/
theorem codeLo_apply (x : S512x512.Idx → BitVec 32) (q : S512x512.Idx) (m : ℕ) (hm : m < 16)
    (hx : x q = BitVec.ofNat 32 (4 * m)) : codeLo x q = BitVec.ofNat 32 (lo m) := by
  have e : codeLo x q = Scalar.select (IntOp.cmpi .slt (x q) 32#32)
      (IntOp.shli .vector 1#32 (IntOp.andi (x q) 31#32)) 0#32 := rfl
  rw [e, hx]
  exact lo_word m hm

/-- The high code of the scaled plane at an index. -/
theorem codeHi_apply (x : S512x512.Idx → BitVec 32) (q : S512x512.Idx) (m : ℕ) (hm : m < 16)
    (hx : x q = BitVec.ofNat 32 (4 * m)) : codeHi x q = BitVec.ofNat 32 (hi m) := by
  have e : codeHi x q = Scalar.select (IntOp.cmpi .slt (x q) 32#32) 0#32
      (IntOp.shli .vector 1#32 (IntOp.andi (x q) 31#32)) := rfl
  rw [e, hx]
  exact hi_word m hm

/-- Three words added are the word of the sum. -/
theorem add_words (a b c : ℕ) :
    IntOp.addi (IntOp.addi (BitVec.ofNat 32 a) (BitVec.ofNat 32 b)) (BitVec.ofNat 32 c) = BitVec.ofNat 32 (a + b + c) := by
  unfold IntOp.addi
  rw [BitVec.ofNat_add, BitVec.ofNat_add]

/-- A row sum at an index, for a row `E` of numbers counted from the padding column. -/
theorem rowSum_apply (e o : S256x256.Idx → BitVec 32) (E : ℕ → ℕ) (i : Fin 256)
    (he : ∀ j : Fin 256, e (ix2 i j) = BitVec.ofNat 32 (E (2 * j.val + 1)))
    (ho : ∀ j : Fin 256, o (ix2 i j) = BitVec.ofNat 32 (E (2 * j.val + 2))) (j : Fin 256) :
    rowSum (BitVec.ofNat 32 (E 0)) e o (ix2 i j)
      = BitVec.ofNat 32 (E (2 * j.val) + E (2 * j.val + 1) + E (2 * j.val + 2)) := by
  have hc : concatenate S256x256 1 [⟨S256x1, broadcast S256x1 (BitVec.ofNat 32 (E 0))⟩,
      ⟨S256x255, extractStridedSlice S256x255 ![0, 0] o slices_S256x256_o0_0_S256x255⟩]
      concatenates_S256x1_S256x255_S256x256_d1 (ix2 i j) = BitVec.ofNat 32 (E (2 * j.val)) := by
    by_cases h : j.val = 0
    · refine (concatenate_pair_apply_left 1 _ _ concatenates_S256x1_S256x255_S256x256_d1 (ix2 i j) rfl (ix2 i 0) ?_).trans ?_
      · intro b
        match b with
        | ⟨0, _⟩ => rfl
        | ⟨1, _⟩ => exact h.symm
      · rw [h]; rfl
    · have hj := j.isLt
      refine (concatenate_pair_apply_right 1 _ _ concatenates_S256x1_S256x255_S256x256_d1 (ix2 i j) rfl rfl
        (ix2 i ⟨j.val - 1, by omega⟩) ?_ ?_).trans ?_
      · intro b hb
        match b with
        | ⟨0, _⟩ => rfl
        | ⟨1, _⟩ => exact absurd rfl hb
      · show j.val - 1 + 1 = j.val
        omega
      · refine (extractStridedSlice_apply _ o slices_S256x256_o0_0_S256x255 _ (ix2 i ⟨j.val - 1, by omega⟩) ?_).trans ?_
        · intro b
          match b with
          | ⟨0, _⟩ => exact (Nat.zero_add _).symm
          | ⟨1, _⟩ => exact (Nat.zero_add _).symm
        · rw [ho]
          congr 2
          show 2 * (j.val - 1) + 2 = 2 * j.val
          omega
  have e1 : rowSum (BitVec.ofNat 32 (E 0)) e o (ix2 i j) = IntOp.addi (IntOp.addi
      (concatenate S256x256 1 [⟨S256x1, broadcast S256x1 (BitVec.ofNat 32 (E 0))⟩,
      ⟨S256x255, extractStridedSlice S256x255 ![0, 0] o slices_S256x256_o0_0_S256x255⟩]
      concatenates_S256x1_S256x255_S256x256_d1 (ix2 i j)) (e (ix2 i j))) (o (ix2 i j)) := rfl
  rw [e1, hc, he, ho, add_words]

/-- A column sum at an index, for a column `E` of numbers counted from the padding row. -/
theorem colSum_apply (e o : S256x256.Idx → BitVec 32) (E : ℕ → ℕ) (j : Fin 256)
    (he : ∀ i : Fin 256, e (ix2 i j) = BitVec.ofNat 32 (E (2 * i.val + 1)))
    (ho : ∀ i : Fin 256, o (ix2 i j) = BitVec.ofNat 32 (E (2 * i.val + 2))) (i : Fin 256) :
    colSum (BitVec.ofNat 32 (E 0)) e o (ix2 i j)
      = BitVec.ofNat 32 (E (2 * i.val) + E (2 * i.val + 1) + E (2 * i.val + 2)) := by
  have hc : concatenate S256x256 0 [⟨S1x256, broadcast S1x256 (BitVec.ofNat 32 (E 0))⟩,
      ⟨S255x256, extractStridedSlice S255x256 ![0, 0] o slices_S256x256_o0_0_S255x256⟩]
      concatenates_S1x256_S255x256_S256x256_d0 (ix2 i j) = BitVec.ofNat 32 (E (2 * i.val)) := by
    by_cases h : i.val = 0
    · refine (concatenate_pair_apply_left 0 _ _ concatenates_S1x256_S255x256_S256x256_d0 (ix2 i j) rfl (ix2 0 j) ?_).trans ?_
      · intro b
        match b with
        | ⟨0, _⟩ => exact h.symm
        | ⟨1, _⟩ => rfl
      · rw [h]; rfl
    · have hi := i.isLt
      refine (concatenate_pair_apply_right 0 _ _ concatenates_S1x256_S255x256_S256x256_d0 (ix2 i j) rfl rfl
        (ix2 ⟨i.val - 1, by omega⟩ j) ?_ ?_).trans ?_
      · intro b hb
        match b with
        | ⟨0, _⟩ => exact absurd rfl hb
        | ⟨1, _⟩ => rfl
      · show i.val - 1 + 1 = i.val
        omega
      · refine (extractStridedSlice_apply _ o slices_S256x256_o0_0_S255x256 _ (ix2 ⟨i.val - 1, by omega⟩ j) ?_).trans ?_
        · intro b
          match b with
          | ⟨0, _⟩ => exact (Nat.zero_add _).symm
          | ⟨1, _⟩ => exact (Nat.zero_add _).symm
        · rw [ho]
          congr 2
          show 2 * (i.val - 1) + 2 = 2 * i.val
          omega
  have e1 : colSum (BitVec.ofNat 32 (E 0)) e o (ix2 i j) = IntOp.addi (IntOp.addi
      (concatenate S256x256 0 [⟨S1x256, broadcast S1x256 (BitVec.ofNat 32 (E 0))⟩,
      ⟨S255x256, extractStridedSlice S255x256 ![0, 0] o slices_S256x256_o0_0_S255x256⟩]
      concatenates_S1x256_S255x256_S256x256_d0 (ix2 i j)) (e (ix2 i j))) (o (ix2 i j)) := rfl
  rw [e1, hc, he, ho, add_words]

/-- A cell off the padding is the plane's value. -/
theorem cell_succ (p : Fin 512 → Fin 512 → ℕ) (r c : Fin 512) (m n : ℕ) (hm : m = r.val + 1) (hn : n = c.val + 1) :
    cell p m n = p r c := by
  subst hm hn
  unfold cell
  rw [dif_pos ⟨⟨Nat.succ_pos _, by simp⟩, ⟨Nat.succ_pos _, by simp⟩⟩]
  rfl

/-- A cell of the padding row or column is zero. -/
theorem cell_row (p : Fin 512 → Fin 512 → ℕ) (c : ℕ) : cell p 0 c = 0 := dif_neg fun h => absurd h.1.1 (lt_irrefl 0)

/-- A cell of the padding column is zero. -/
theorem cell_col (p : Fin 512 → Fin 512 → ℕ) (r : ℕ) : cell p r 0 = 0 := dif_neg fun h => absurd h.2.1 (lt_irrefl 0)

/-- A quadrant of a plane of codes at an index: the code of the cell it came from. -/
theorem quadrant_apply (c : S512x512.Idx → BitVec 32) (g : ℕ → ℕ) (v : Fin 512 → Fin 512 → ℕ)
    (hc : ∀ i j, c (ix2 i j) = BitVec.ofNat 32 (g (v (sel i) (sel j)))) (a b : ℕ) (ha : a < 2) (hb : b < 2)
    (h : S512x512.Slices ![256 * a, 256 * b] S256x256) (i j : Fin 256) :
    extractStridedSlice S256x256 ![256 * a, 256 * b] c h (ix2 i j)
      = BitVec.ofNat 32 (g (cell v (2 * i.val + 1 + a) (2 * j.val + 1 + b))) := by
  have hi := i.isLt
  have hj := j.isLt
  have hs : ∀ (k : Fin 512) (a : ℕ) (i : ℕ), a < 2 → i < 256 → k.val = 256 * a + i → 2 * i + 1 + a = (sel k).val + 1 := by
    intro k a i ha hi hk
    unfold sel
    show _ = (if k.val < 256 then 2 * k.val else 2 * (k.val - 256) + 1) + 1
    split <;> omega
  refine (extractStridedSlice_apply _ c h _ (ix2 (⟨256 * a + i.val, by omega⟩ : Fin 512) (⟨256 * b + j.val, by omega⟩ : Fin 512)) ?_).trans ?_
  · intro d
    match d with
    | ⟨0, _⟩ => rfl
    | ⟨1, _⟩ => rfl
  · rw [hc, cell_succ v (sel ⟨256 * a + i.val, by omega⟩) (sel ⟨256 * b + j.val, by omega⟩) _ _ (hs _ a _ ha hi rfl) (hs _ b _ hb hj rfl)]

/-- The window sums of a plane of codes: the sum of the codes of the nine values. -/
theorem winSum_apply (c : S512x512.Idx → BitVec 32) (g : ℕ → ℕ) (v : Fin 512 → Fin 512 → ℕ)
    (hc : ∀ i j, c (ix2 i j) = BitVec.ofNat 32 (g (v (sel i) (sel j)))) (f f' : BitVec 32)
    (hf : f = BitVec.ofNat 32 (g 0)) (hf' : f' = BitVec.ofNat 32 (g 0 + g 0 + g 0)) (i j : Fin 256) :
    winSum f f' c (ix2 i j) = BitVec.ofNat 32 (∑ k, g (win v i j k)) := by
  have hrow : ∀ (a : ℕ) (ha : a < 2) (h0 : S512x512.Slices ![256 * a, 256 * 0] S256x256)
      (h1 : S512x512.Slices ![256 * a, 256 * 1] S256x256) (i : Fin 256),
      rowSum f (extractStridedSlice S256x256 ![256 * a, 256 * 0] c h0) (extractStridedSlice S256x256 ![256 * a, 256 * 1] c h1)
        (ix2 i j) = BitVec.ofNat 32 (g (cell v (2 * i.val + 1 + a) (2 * j.val)) + g (cell v (2 * i.val + 1 + a) (2 * j.val + 1))
          + g (cell v (2 * i.val + 1 + a) (2 * j.val + 2))) := by
    intro a ha h0 h1 i
    have := rowSum_apply (extractStridedSlice S256x256 ![256 * a, 256 * 0] c h0)
      (extractStridedSlice S256x256 ![256 * a, 256 * 1] c h1) (fun n => g (cell v (2 * i.val + 1 + a) n)) i
      (fun j => quadrant_apply c g v hc a 0 ha (by omega) h0 i j) (fun j => quadrant_apply c g v hc a 1 ha (by omega) h1 i j) j
    rw [cell_col] at this
    rw [hf]
    exact this
  have hcol := colSum_apply
    (rowSum f (extractStridedSlice S256x256 ![0, 0] c slices_S512x512_o0_0_S256x256)
      (extractStridedSlice S256x256 ![0, 256] c slices_S512x512_o0_256_S256x256))
    (rowSum f (extractStridedSlice S256x256 ![256, 0] c slices_S512x512_o256_0_S256x256)
      (extractStridedSlice S256x256 ![256, 256] c slices_S512x512_o256_256_S256x256))
    (fun m => g (cell v m (2 * j.val)) + g (cell v m (2 * j.val + 1)) + g (cell v m (2 * j.val + 2))) j
    (fun i => hrow 0 (by omega) slices_S512x512_o0_0_S256x256 slices_S512x512_o0_256_S256x256 i)
    (fun i => hrow 1 (by omega) slices_S512x512_o256_0_S256x256 slices_S512x512_o256_256_S256x256 i) i
  rw [cell_row, cell_row, cell_row, ← hf'] at hcol
  refine hcol.trans (congrArg (BitVec.ofNat 32) ?_)
  have hw : ∀ (k : Fin 9) (a b : ℕ), k.val / 3 = a → k.val % 3 = b → g (win v i j k) = g (cell v (2 * i.val + a) (2 * j.val + b)) := by
    rintro k _ _ rfl rfl
    rfl
  rw [Fin.sum_univ_castSucc, Fin.sum_univ_eight]
  rw [hw _ 0 0 rfl rfl, hw _ 0 1 rfl rfl, hw _ 0 2 rfl rfl, hw _ 1 0 rfl rfl, hw _ 1 1 rfl rfl, hw _ 1 2 rfl rfl,
    hw _ 2 0 rfl rfl, hw _ 2 1 rfl rfl, hw _ 2 2 rfl rfl]
  simp only [Nat.add_zero]
  omega

/-- The lowest count of a word, tagged, at an index. -/
theorem first_apply (w : S256x256.Idx → BitVec 32) (r : BitVec 32) (q : S256x256.Idx) :
    first w r q = tagWord (IntOp.shli .vector (w q) 4#32) r := rfl

/-- A tagged word at an index. -/
theorem tag_apply (w : S256x256.Idx → BitVec 32) (r : BitVec 32) (q : S256x256.Idx) : tag w r q = tagWord (w q) r := rfl

/-- A later count of a word, tagged, at an index. -/
theorem later_apply (w : S256x256.Idx → BitVec 32) (s r : BitVec 32) (q : S256x256.Idx) :
    later w s r q = tagWord (IntOp.shrsi .vector (w q) s) r := rfl

/-- A maximum at an index. -/
theorem maxsi_apply (x y : S256x256.Idx → BitVec 32) (q : S256x256.Idx) : maxsi x y q = IntOp.maxsi (x q) (y q) := rfl

/-- The greatest tagged count at an index. -/
theorem best_apply (l h : S256x256.Idx → BitVec 32) (q : S256x256.Idx) : best l h q = bestWord (l q) (h q) := by
  unfold best bestWord
  simp only [maxsi_apply, first_apply, tag_apply, later_apply, maxFields, fieldWord]

/-- The integers of one output plane at an index: the mode of the window. -/
theorem modes_apply (x : S512x512.Idx → BitVec 32) (v : Fin 512 → Fin 512 → ℕ) (hv : ∀ i j, v i j < 16)
    (hx : ∀ i j, x (ix2 i j) = BitVec.ofNat 32 (4 * v (sel i) (sel j))) (i j : Fin 256) :
    modes x (ix2 i j) = BitVec.ofNat 32 (Mode.mode (win v i j)) := by
  have hl := winSum_apply (codeLo x) lo v (fun i j => codeLo_apply x _ _ (hv _ _) (hx i j)) 1#32 3#32 rfl rfl i j
  have hh := winSum_apply (codeHi x) hi v (fun i j => codeHi_apply x _ _ (hv _ _) (hx i j)) 0#32 0#32 rfl rfl i j
  rw [sum_lo _ (win_lt v hv i j)] at hl
  rw [sum_hi _ (win_lt v hv i j)] at hh
  have e : modes x (ix2 i j) = IntOp.subi 15#32 (IntOp.andi (bestWord (winSum 1#32 3#32 (codeLo x) (ix2 i j))
      (winSum 0#32 0#32 (codeHi x) (ix2 i j))) 15#32) := by
    rw [← best_apply]
    rfl
  rw [e, hl, hh]
  exact pick_word _

/-- A plane stood up as a slab of one, at an index. -/
theorem slab_apply (y : S256x256.Idx → EReal) (i j : Fin 256) :
    shapeCast S1x256x256 y shapeCasts_S256x256_S1x256x256 (ix3 0 i j) = y (ix2 i j) := by
  pointwise

/-- Words as floats, at an index. -/
theorem sitofp_apply (y : S256x256.Idx → BitVec 32) (q : S256x256.Idx) :
    sitofp (F := Ideal) .f32 y q = (((y q).toInt : ℝ) : EReal) := rfl

/-- One output plane at an index: the mode of the window. -/
theorem plane_apply (p : S1x512x512.Idx → EReal) (a r : S512x512.Idx → EReal) (v : Fin 512 → Fin 512 → ℕ)
    (hv : ∀ i j, v i j < 16) (hp : ∀ i j, p (ix3 0 i j) = ((v i j : ℝ) : EReal))
    (ha : ∀ i j, a (ix2 i j) = if i = sel j then (1 : EReal) else 0)
    (hr : ∀ i j, r (ix2 i j) = if j = sel i then ((4 : ℝ) : EReal) else 0) (i j : Fin 256) :
    plane (F := Ideal) p a r (ix3 0 i j) = ((Mode.mode (win v i j) : ℝ) : EReal) := by
  have hm := modes_apply (scaled (F := Ideal) p a r) v hv (fun i j => scaled_apply p a r v hv hp ha hr i j) i j
  have ht : ∀ m < 16, (BitVec.ofNat 32 m).toInt = (m : ℤ) := by decide
  unfold plane
  generalize modes (scaled (F := Ideal) p a r) = y at hm ⊢
  refine (slab_apply (sitofp (F := Ideal) .f32 y) i j).trans ?_
  refine (sitofp_apply y (ix2 i j)).trans ?_
  rw [hm, ht _ (Mode.mode_lt _)]
  exact congrArg (fun r : ℝ => (r : EReal)) (Int.cast_natCast _)

end Cert.KernelIdeal.Plane

end
-- ==== Proof.Block.lean ====
/-
  The kernel's output block as a function of its input block: sixteen planes of modes from sixteen planes of numbers.
-/
module

public import proofs.«01_k».proof.Proof.PlaneVal

@[expose] public section

noncomputable section

namespace Cert.KernelIdeal.Plane

open Idealize.ShloMosaic Cert.KernelIdeal Cert.KernelIdeal.Gen Cert.Window

/-- The planes of modes of `k` planes of numbers. -/
def modesOf {k : ℕ} (v : Fin k → Fin 512 → Fin 512 → ℕ) : (⟨3, ![k, 256, 256]⟩ : Shape).Idx → EReal :=
  fun y => ((Mode.mode (win (v (y 0)) (y 1) (y 2)) : ℝ) : EReal)

/-- Plane `g` of the output block: the modes of plane `g` of the input block. -/
theorem piece_apply (x0 : Vec Ideal S16x512x512 .f32) (x1 x2 : Vec Ideal S512x512 .bf16) (v : Fin 16 → Fin 512 → Fin 512 → ℕ)
    (hv : ∀ g i j, v g i j < 16) (h0 : ∀ g i j, x0 (ix3 g i j) = ((v g i j : ℝ) : EReal))
    (h1 : ∀ i j, x1 (ix2 i j) = if i = sel j then (1 : EReal) else 0)
    (h2 : ∀ i j, x2 (ix2 i j) = if j = sel i then ((4 : ℝ) : EReal) else 0)
    (g : ℕ) (hg : g < 16) (hi : ∀ a, (![g, 0, 0] : Fin 3 → ℕ) a + S1x512x512.size a ≤ S16x512x512.size a)
    (ho : ∀ a, (![g, 0, 0] : Fin 3 → ℕ) a + S1x256x256.size a ≤ S16x256x256.size a) (x : S1x256x256.Idx) :
    plane (F := Ideal) (View.ld x0 (Rect.unit (s := S16x512x512) ![g, 0, 0] S1x512x512.size hi))
      (View.ld x1 r0_1) (View.ld x2 r0_1) x
      = modesOf v ((Rect.unit (s := S16x256x256) ![g, 0, 0] S1x256x256.size ho).emb x) := by
  have hz : (![0, 0] : Fin 2 → ℕ) = fun _ => 0 := funext fun a => by
    match a with
    | ⟨0, _⟩ => rfl
    | ⟨1, _⟩ => rfl
  have e1 : View.ld x1 r0_1 = x1 := View.ld_unit_zero hz _ _
  have e2 : View.ld x2 r0_1 = x2 := View.ld_unit_zero hz _ _
  rw [e1, e2]
  obtain ⟨i, j, rfl⟩ : ∃ (i j : Fin 256), x = ix3 0 i j := by
    refine ⟨x 1, x 2, ?_⟩
    funext a
    match a with
    | ⟨0, _⟩ => exact Subsingleton.elim (α := Fin 1) _ _
    | ⟨1, _⟩ => rfl
    | ⟨2, _⟩ => rfl
  refine (plane_apply _ x1 x2 (v ⟨g, hg⟩) (hv _) (fun r s => ?_) h1 h2 i j).trans ?_
  · rw [← h0]
    show x0 _ = x0 _
    congr 1
    funext a
    apply Fin.ext
    match a with
    | ⟨0, _⟩ => show g + 1 * 0 = g; omega
    | ⟨1, _⟩ => show 0 + 1 * r.val = r.val; omega
    | ⟨2, _⟩ => show 0 + 1 * s.val = s.val; omega
  · unfold modesOf
    have c0 : ((Rect.unit (s := S16x256x256) ![g, 0, 0] S1x256x256.size ho).emb (ix3 0 i j)) 0 = (⟨g, hg⟩ : Fin 16) :=
      Fin.ext (show g + 1 * 0 = g by omega)
    have c1 : ((Rect.unit (s := S16x256x256) ![g, 0, 0] S1x256x256.size ho).emb (ix3 0 i j)) 1 = i :=
      Fin.ext (show 0 + 1 * i.val = i.val by omega)
    have c2 : ((Rect.unit (s := S16x256x256) ![g, 0, 0] S1x256x256.size ho).emb (ix3 0 i j)) 2 = j :=
      Fin.ext (show 0 + 1 * j.val = j.val by omega)
    rw [c0, c1, c2]

/-- What the body leaves in its output block: the modes of the sixteen planes of its input block. -/
theorem out_apply (x0 : Vec Ideal S16x512x512 .f32) (x1 x2 : Vec Ideal S512x512 .bf16) (v : Fin 16 → Fin 512 → Fin 512 → ℕ)
    (hv : ∀ g i j, v g i j < 16) (h0 : ∀ g i j, x0 (ix3 g i j) = ((v g i j : ℝ) : EReal))
    (h1 : ∀ i j, x1 (ix2 i j) = if i = sel j then (1 : EReal) else 0)
    (h2 : ∀ i j, x2 (ix2 i j) = if j = sel i then ((4 : ℝ) : EReal) else 0) :
    out0_3 (F := Ideal) x0 x1 x2 = modesOf v := by
  funext y
  rw [out_eq]
  refine View.canon_apply_of_pieces (Val := Elt Ideal) (e := .f32) (modesOf v) _ ?_ y (cover0_3 _ _ _ _ _ _ _ _ _ _ _ _ _ _ _ _ y)
  iterate 16 refine List.forall_mem_cons.mpr ⟨fun x => piece_apply x0 x1 x2 v hv h0 h1 h2 _ (by decide) _ (by decide) x, ?_⟩
  exact fun p hp => absurd hp List.not_mem_nil

end Cert.KernelIdeal.Plane

end
-- ==== Proof.HostPre.lean ====
/-
  What the host computes before the kernel runs: the planes in one row of 128, and the two selections.
-/
module

public import proofs.«01_k».proof.Proof.PlaneVal

@[expose] public section

noncomputable section

namespace Cert.KernelIdeal.Plane

open Idealize.ShloMosaic Idealize.ShloMosaic.TcCoe Idealize.ShloMosaic.StableHlo Cert.KernelIdeal Cert.KernelIdeal.Gen

/-- Whether position `b` of line `a` is selected, as the host computes it from the two indices. -/
def hit (b a : IVec S512x512 32) : IVec S512x512 1 :=
  ori
    (andi (cmpi .slt b (broadcastInDim S512x512 ![] bcast_S_S512x512 (constantI S_ 32 256#32)))
      (cmpi .eq a (muli (broadcastInDim S512x512 ![] bcast_S_S512x512 (constantI S_ 32 2#32)) b)))
    (andi (cmpi .sge b (broadcastInDim S512x512 ![] bcast_S_S512x512 (constantI S_ 32 256#32)))
      (cmpi .eq a (addi (muli (broadcastInDim S512x512 ![] bcast_S_S512x512 (constantI S_ 32 2#32))
        (subi b (broadcastInDim S512x512 ![] bcast_S_S512x512 (constantI S_ 32 256#32))))
        (broadcastInDim S512x512 ![] bcast_S_S512x512 (constantI S_ 32 1#32)))))

variable {F : FTy → Type} [FloatOps F]

/-- The column selection. -/
theorem after_cols (W : Valuation τ sig (Elt F)) :
    after (hostOps0 (F := F)) W (main_v20 : DevRef τ sig)
      = uitofp .bf16 (hit (iotaInDim S512x512 32 1) (iotaInDim S512x512 32 0)) := by
  after_results
  rfl

/-- The row selection, times four. -/
theorem after_rows (W : Valuation τ sig (Elt F)) :
    after (hostOps0 (F := F)) W (main_v42 : DevRef τ sig)
      = mulf (broadcastInDim S512x512 ![] bcast_S_S512x512 (constant S_ .bf16 0x4080#16))
          (uitofp .bf16 (hit (iotaInDim S512x512 32 0) (iotaInDim S512x512 32 1))) := by
  after_results
  rfl

/-- The planes. -/
theorem after_planes (W : Valuation τ sig (Elt F)) :
    after (hostOps0 (F := F)) W (main_v0 : DevRef τ sig)
      = shapeCast S128x512x512 (W (main_arg0 : DevRef τ sig)) shapeCasts_S2x64x512x512_S128x512x512 := by
  after_results
  rfl

end Cert.KernelIdeal.Plane

end
-- ==== Proof.HostSel.lean ====
/-
  The two selections at an index: one where the row is the column's selected line, and four where the column is the row's.
-/
module

public import proofs.«01_k».proof.Proof.HostPre

@[expose] public section

noncomputable section

namespace Cert.KernelIdeal.Plane

open Idealize.ShloMosaic Cert.KernelIdeal Cert.KernelIdeal.Gen

/-- Whether line `a` is the one selected at position `b`, in words. -/
def hitWord (b a : BitVec 32) : BitVec 1 :=
  IntOp.ori (IntOp.andi (IntOp.cmpi .slt b 256#32) (IntOp.cmpi .eq a (IntOp.muli 2#32 b)))
    (IntOp.andi (IntOp.cmpi .sge b 256#32)
      (IntOp.cmpi .eq a (IntOp.addi (IntOp.muli 2#32 (IntOp.subi b 256#32)) 1#32)))

/-- A word test of small numbers for equality. -/
theorem eq_small {m n : ℕ} (hm : m < 2 ^ 32) (hn : n < 2 ^ 32) :
    IntOp.cmpi .eq (BitVec.ofNat 32 m) (BitVec.ofNat 32 n) = if m = n then 1#1 else 0#1 := by
  unfold IntOp.cmpi
  by_cases h : m = n
  · subst h; simp
  · have : BitVec.ofNat 32 m ≠ BitVec.ofNat 32 n := by
      intro e
      have := congrArg BitVec.toNat e
      rw [BitVec.toNat_ofNat, BitVec.toNat_ofNat, Nat.mod_eq_of_lt hm, Nat.mod_eq_of_lt hn] at this
      exact h this
    rw [if_neg h]
    exact congrArg BitVec.ofBool (beq_eq_false_iff_ne.mpr this)

/-- The test in words: whether the line is the selected one. -/
theorem hitWord_eq (a b : Fin 512) :
    hitWord (BitVec.ofNat 32 b.val) (BitVec.ofNat 32 a.val) = if a = sel b then 1#1 else 0#1 := by
  have ha := a.isLt
  have hb := b.isLt
  have hlt : ∀ b : Fin 512, IntOp.cmpi .slt (BitVec.ofNat 32 b.val) 256#32 = if b.val < 256 then 1#1 else 0#1 := by
    decide +kernel
  have hge : ∀ b : Fin 512, IntOp.cmpi .sge (BitVec.ofNat 32 b.val) 256#32 = if b.val < 256 then 0#1 else 1#1 := by
    decide +kernel
  have he : ∀ b : Fin 512, IntOp.muli 2#32 (BitVec.ofNat 32 b.val) = BitVec.ofNat 32 (2 * b.val) := by decide +kernel
  have hiff : a = sel b ↔ a.val = if b.val < 256 then 2 * b.val else 2 * (b.val - 256) + 1 := Fin.ext_iff
  unfold hitWord
  rw [hlt, hge]
  by_cases h : b.val < 256
  · rw [if_pos h, if_pos h, he, eq_small (by omega) (by omega)]
    rw [if_pos h] at hiff
    by_cases h' : a.val = 2 * b.val
    · rw [if_pos h', if_pos (hiff.mpr h')]
      exact (by decide : ∀ x : BitVec 1, IntOp.ori (IntOp.andi 1#1 1#1) (IntOp.andi 0#1 x) = 1#1) _
    · rw [if_neg h', if_neg (fun e => h' (hiff.mp e))]
      exact (by decide : ∀ x : BitVec 1, IntOp.ori (IntOp.andi 1#1 0#1) (IntOp.andi 0#1 x) = 0#1) _
  · have ho : ∀ b : Fin 512, ¬ b.val < 256 → IntOp.addi (IntOp.muli 2#32 (IntOp.subi (BitVec.ofNat 32 b.val) 256#32)) 1#32
        = BitVec.ofNat 32 (2 * (b.val - 256) + 1) := by decide +kernel
    rw [if_neg h, if_neg h, ho b h, eq_small (m := a.val) (n := 2 * (b.val - 256) + 1) (by omega) (by omega)]
    rw [if_neg h] at hiff
    by_cases h' : a.val = 2 * (b.val - 256) + 1
    · rw [if_pos h', if_pos (hiff.mpr h')]
      exact (by decide : ∀ x : BitVec 1, IntOp.ori (IntOp.andi 0#1 x) (IntOp.andi 1#1 1#1) = 1#1) _
    · rw [if_neg h', if_neg (fun e => h' (hiff.mp e))]
      exact (by decide : ∀ x : BitVec 1, IntOp.ori (IntOp.andi 0#1 x) (IntOp.andi 1#1 0#1) = 0#1) _

/-- A test bit as a number. -/
theorem bit_value (p : Prop) [Decidable p] :
    Scalar.uitofp (F := Ideal) .bf16 (if p then 1#1 else 0#1 : BitVec 1) = if p then (1 : EReal) else 0 := by
  by_cases h : p
  · rw [if_pos h, if_pos h]
    show (((1#1 : BitVec 1).toNat : ℝ) : EReal) = 1
    simp
  · rw [if_neg h, if_neg h]
    show (((0#1 : BitVec 1).toNat : ℝ) : EReal) = 0
    simp

/-- The column selection at an index. -/
theorem cols_apply (i j : Fin 512) :
    (uitofp (F := Ideal) .bf16 (hit (iotaInDim S512x512 32 1) (iotaInDim S512x512 32 0))) (ix2 i j)
      = if i = sel j then (1 : EReal) else 0 := by
  have e : (uitofp (F := Ideal) .bf16 (hit (iotaInDim S512x512 32 1) (iotaInDim S512x512 32 0))) (ix2 i j)
      = Scalar.uitofp (F := Ideal) .bf16 (hitWord (BitVec.ofNat 32 j.val) (BitVec.ofNat 32 i.val)) := rfl
  rw [e, hitWord_eq, bit_value]

/-- The word of the factor four. -/
theorem four : FloatOps.ofBits (F := Ideal) .bf16 0x4080#16 = ((4 : ℝ) : EReal) := by
  show Ideal.ofBits .bf16 0x4080#16 = _
  simp [Ideal.ofBits, Ideal.ieee, -EReal.coe_mul]
  norm_num

/-- The row selection at an index. -/
theorem rows_apply (i j : Fin 512) :
    (mulf (F := Ideal) (broadcastInDim S512x512 ![] bcast_S_S512x512 (constant (F := Ideal) S_ .bf16 0x4080#16))
      (uitofp (F := Ideal) .bf16 (hit (iotaInDim S512x512 32 0) (iotaInDim S512x512 32 1)))) (ix2 i j)
      = if j = sel i then ((4 : ℝ) : EReal) else 0 := by
  have e : (mulf (F := Ideal) (broadcastInDim S512x512 ![] bcast_S_S512x512 (constant (F := Ideal) S_ .bf16 0x4080#16))
      (uitofp (F := Ideal) .bf16 (hit (iotaInDim S512x512 32 0) (iotaInDim S512x512 32 1)))) (ix2 i j)
      = FloatOps.ofBits (F := Ideal) .bf16 0x4080#16
        * Scalar.uitofp (F := Ideal) .bf16 (hitWord (BitVec.ofNat 32 i.val) (BitVec.ofNat 32 j.val)) := rfl
  rw [e, hitWord_eq, bit_value, four]
  by_cases h : j = sel i
  · rw [if_pos h, if_pos h, mul_one]
  · rw [if_neg h, if_neg h, mul_zero]

end Cert.KernelIdeal.Plane

end
-- ==== Proof.KernelArr.lean ====
/-
  The kernel's result array: the modes of all 128 planes, block by block.
-/
module

public import proofs.«01_k».proof.Proof.Block
public import proofs.«01_k».proof.Proof.HostSel
public import Idealize.ShloMosaic.Lib.Pipeline.Value

@[expose] public section

noncomputable section

namespace Cert.KernelIdeal.Plane

open Idealize.ShloMosaic Idealize.ShloMosaic.TcCoe Idealize.SL.Sem
open Idealize.ShloMosaic.Pipeline (Dat)
open Cert.KernelIdeal Cert.KernelIdeal.Gen Cert.Window

variable (m : (ℓ : Loc nD τ sig) → Buf (Elt Ideal) ℓ)

/-- The planes of an array as natural numbers. -/
def nums {k : ℕ} (y : (⟨3, ![k, 512, 512]⟩ : Shape).Idx → EReal) : Fin k → Fin 512 → Fin 512 → ℕ :=
  fun n r s => val (y (ix3 n r s))

/-- The planes before the region are the argument's. -/
theorem V_planes (c : Dev nD) :
    V m c main_v0 = shapeCast S128x512x512 (m ((c : Thread nD τ).loc main_arg0)) shapeCasts_S2x64x512x512_S128x512x512 := by
  unfold V V0
  rw [List.flatten_singleton]
  exact after_planes _

/-- The column selection before the region, at an index. -/
theorem V_cols (c : Dev nD) (i j : Fin 512) : V m c main_v20 (ix2 i j) = if i = sel j then (1 : EReal) else 0 := by
  have h : V m c main_v20 = uitofp (F := Ideal) .bf16 (hit (iotaInDim S512x512 32 1) (iotaInDim S512x512 32 0)) := by
    unfold V V0
    rw [List.flatten_singleton]
    exact after_cols _
  exact (congrFun h (ix2 i j)).trans (cols_apply i j)

/-- The row selection before the region, at an index. -/
theorem V_rows (c : Dev nD) (i j : Fin 512) :
    V m c main_v42 (ix2 i j) = if j = sel i then ((4 : ℝ) : EReal) else 0 := by
  have h : V m c main_v42 = mulf (F := Ideal) (broadcastInDim S512x512 ![] bcast_S_S512x512 (constant (F := Ideal) S_ .bf16 0x4080#16))
      (uitofp (F := Ideal) .bf16 (hit (iotaInDim S512x512 32 0) (iotaInDim S512x512 32 1))) := by
    unfold V V0
    rw [List.flatten_singleton]
    exact after_rows _
  exact (congrFun h (ix2 i j)).trans (rows_apply i j)

/-- Plane `g` of the block at point `t` is plane `16 t + g`. -/
def planeOf (t : Fin cfg0.N) (g : Fin 16) : Fin 128 :=
  ⟨t.val * 16 + g.val, by have h : cfg0.N = 8 := N_0; have := t.isLt; have := g.isLt; omega⟩

/-- Where the input's blocks lie. -/
theorem off0_0 : ∀ t : Fin cfg0.N, win0_0.index t 0 * win0_0.size 0 = t.val * 16 ∧ win0_0.index t 1 * win0_0.size 1 = 0
    ∧ win0_0.index t 2 * win0_0.size 2 = 0 := by decide +kernel

/-- Where the selections' blocks lie: they are whole. -/
theorem off0_1 : ∀ t : Fin cfg0.N, win0_1.index t 0 * win0_1.size 0 = 0 ∧ win0_1.index t 1 * win0_1.size 1 = 0 := by
  decide +kernel

theorem off0_2 : ∀ t : Fin cfg0.N, win0_2.index t 0 * win0_2.size 0 = 0 ∧ win0_2.index t 1 * win0_2.size 1 = 0 := by
  decide +kernel

/-- Where the output's blocks lie. -/
theorem off0_3 : ∀ t : Fin cfg0.N, win0_3.index t 0 * win0_3.size 0 = t.val * 16 ∧ win0_3.index t 1 * win0_3.size 1 = 0
    ∧ win0_3.index t 2 * win0_3.size 2 = 0 := by decide +kernel

/-- How large they are. -/
theorem ext0_3 : ∀ t : Fin cfg0.N, win0_3.xsize (grid0.coords t) 0 = 16 ∧ win0_3.xsize (grid0.coords t) 1 = 256
    ∧ win0_3.xsize (grid0.coords t) 2 = 256 := by decide +kernel

/-- The input block at an index. -/
theorem iblk0_apply (c : Dev nD) (t : Fin cfg0.N) (g : Fin 16) (r s : Fin 512) :
    iblk m c 0 t (ix3 g r s) = V m c main_v0 (ix3 (planeOf t g) r s) := by
  obtain ⟨h0, h1, h2⟩ := off0_0 t
  show V m c main_v0 ((win0_0.rect t).emb (ix3 g r s)) = _
  congr 1
  funext a
  apply Fin.ext
  match a with
  | ⟨0, _⟩ => show win0_0.index t 0 * win0_0.size 0 + 1 * g.val = t.val * 16 + g.val; omega
  | ⟨1, _⟩ => show win0_0.index t 1 * win0_0.size 1 + 1 * r.val = r.val; omega
  | ⟨2, _⟩ => show win0_0.index t 2 * win0_0.size 2 + 1 * s.val = s.val; omega

/-- The column selection's block at an index. -/
theorem iblk1_apply (c : Dev nD) (t : Fin cfg0.N) (i j : Fin 512) : iblk m c 1 t (ix2 i j) = V m c main_v20 (ix2 i j) := by
  obtain ⟨h0, h1⟩ := off0_1 t
  show V m c main_v20 ((win0_1.rect t).emb (ix2 i j)) = _
  congr 1
  funext a
  apply Fin.ext
  match a with
  | ⟨0, _⟩ => show win0_1.index t 0 * win0_1.size 0 + 1 * i.val = i.val; omega
  | ⟨1, _⟩ => show win0_1.index t 1 * win0_1.size 1 + 1 * j.val = j.val; omega

/-- The row selection's block at an index. -/
theorem iblk2_apply (c : Dev nD) (t : Fin cfg0.N) (i j : Fin 512) : iblk m c 2 t (ix2 i j) = V m c main_v42 (ix2 i j) := by
  obtain ⟨h0, h1⟩ := off0_2 t
  show V m c main_v42 ((win0_2.rect t).emb (ix2 i j)) = _
  congr 1
  funext a
  apply Fin.ext
  match a with
  | ⟨0, _⟩ => show win0_2.index t 0 * win0_2.size 0 + 1 * i.val = i.val; omega
  | ⟨1, _⟩ => show win0_2.index t 1 * win0_2.size 1 + 1 * j.val = j.val; omega

/-- The result array: the modes of the planes. -/
def arr (c : Dev nD) : Buf (Elt Ideal) ((c : Thread nD τ).loc main_v43) :=
  modesOf (k := 128) (nums (k := 128) (V m c main_v0))

/-- What a point writes back is its block of the modes. -/
theorem flushed_eq (c : Dev nD) (hx : Small (s := S128x512x512) (V m c main_v0)) (t : Fin cfg0.N) :
    (dats m 0 c).flushed 3 t = (win0_3.blk t).view.read (Elt Ideal) (arr m c) := by
  obtain ⟨h0, h1, h2⟩ := off0_3 t
  have ha : (dats m 0 c).after 3 t = modesOf (fun g => nums (k := 128) (V m c main_v0) (planeOf t g)) := by
    rw [after0_3]
    refine out_apply _ _ _ _ (fun g i j => (hx _).2) (fun g i j => ?_) (fun i j => ?_) (fun i j => ?_)
    · exact (iblk0_apply m c t g i j).trans (hx _).1
    · exact (iblk1_apply m c t i j).trans (V_cols m c i j)
    · exact (iblk2_apply m c t i j).trans (V_rows m c i j)
  show (cfg0.win 3).cut (grid0.coords t) ((dats m 0 c).after 3 t) = _
  rw [ha]
  funext x
  obtain ⟨g, i, j, rfl⟩ : ∃ (g : Fin 16) (i j : Fin 256), x = ix3 g i j := by
    refine ⟨x 0, x 1, x 2, ?_⟩
    funext a
    match a with
    | ⟨0, _⟩ => rfl
    | ⟨1, _⟩ => rfl
    | ⟨2, _⟩ => rfl
  show modesOf (fun g => nums (k := 128) (V m c main_v0) (planeOf t g)) (ix3 g i j)
    = modesOf (k := 128) (nums (k := 128) (V m c main_v0)) ((win0_3.rect t).emb (ix3 g i j))
  have e : (win0_3.rect t).emb (ix3 g i j) = (ix3 (planeOf t g) i j : S128x256x256.Idx) := by
    funext a
    apply Fin.ext
    match a with
    | ⟨0, _⟩ => show win0_3.index t 0 * win0_3.size 0 + 1 * g.val = t.val * 16 + g.val; omega
    | ⟨1, _⟩ => show win0_3.index t 1 * win0_3.size 1 + 1 * i.val = i.val; omega
    | ⟨2, _⟩ => show win0_3.index t 2 * win0_3.size 2 + 1 * j.val = j.val; omega
  rw [e]
  rfl

/-- An index of the result array lies in point `t`'s block when its plane does. -/
theorem mem_blk (t : Fin cfg0.N) (i : S128x256x256.Idx) (h : t.val * 16 ≤ (i 0 : ℕ) ∧ (i 0 : ℕ) < t.val * 16 + 16) :
    i ∈ ((cfg0.win 3).blk t).view.set := by
  obtain ⟨h0, h1, h2⟩ := off0_3 t
  obtain ⟨x0, x1, x2⟩ := ext0_3 t
  show i ∈ ((View.whole main_v43).slice (win0_3.rect t)).set
  rw [View.set_slice_whole, Rect.mem_set_unit]
  have l1 : (i 1 : ℕ) < 256 := (i 1).isLt
  have l2 : (i 2 : ℕ) < 256 := (i 2).isLt
  intro a
  match a with
  | ⟨0, _⟩ =>
    show win0_3.index t 0 * win0_3.size 0 ≤ (i 0 : ℕ) ∧ (i 0 : ℕ) < win0_3.index t 0 * win0_3.size 0 + win0_3.xsize (grid0.coords t) 0
    omega
  | ⟨1, _⟩ =>
    show win0_3.index t 1 * win0_3.size 1 ≤ (i 1 : ℕ) ∧ (i 1 : ℕ) < win0_3.index t 1 * win0_3.size 1 + win0_3.xsize (grid0.coords t) 1
    omega
  | ⟨2, _⟩ =>
    show win0_3.index t 2 * win0_3.size 2 ≤ (i 2 : ℕ) ∧ (i 2 : ℕ) < win0_3.index t 2 * win0_3.size 2 + win0_3.xsize (grid0.coords t) 2
    omega

/-- The blocks cover the result array. -/
theorem cover (i : S128x256x256.Idx) : ∃ t : Fin cfg0.N, (cfg0.win 3).flush t = true ∧ i ∈ ((cfg0.win 3).blk t).view.set := by
  have h0 : (i 0 : ℕ) < 128 := (i 0).isLt
  have hN : cfg0.N = 8 := N_0
  refine ⟨⟨(i 0 : ℕ) / 16, by omega⟩, flush0_3 _, mem_blk _ _ ?_⟩
  show (i 0 : ℕ) / 16 * 16 ≤ (i 0 : ℕ) ∧ (i 0 : ℕ) < (i 0 : ℕ) / 16 * 16 + 16
  omega

/-- The result array ends holding the modes. -/
theorem final (c : Dev nD) (hx : Small (s := S128x512x512) (V m c main_v0)) : (dats m 0 c).arrAt 3 cfg0.N = arr m c :=
  (dats m 0 c).arrAt_eq_of_cover 3 (arr m c) (fun t _ => flushed_eq m c hx t) cover

/-- The array of planes, at an index, is the argument. -/
theorem planes_apply (x : S2x64x512x512.Idx → EReal) (n : Fin 2) (c : Fin 64) (r s : Fin 512) :
    shapeCast S128x512x512 x shapeCasts_S2x64x512x512_S128x512x512
      (ix3 (⟨n.val * 64 + c.val, by omega⟩ : Fin 128) r s) = x (ix4 n c r s) := by
  pointwise

/-- The result at an index is the result array's. -/
theorem images_apply (y : S128x256x256.Idx → EReal) (n : Fin 2) (c : Fin 64) (i j : Fin 256) :
    shapeCast S2x64x256x256 y shapeCasts_S128x256x256_S2x64x256x256 (ix4 n c i j)
      = y (ix3 (⟨n.val * 64 + c.val, by omega⟩ : Fin 128) i j) := by
  pointwise

/-- Planes of small numbers are made of images of small numbers. -/
theorem small_planes (x : S2x64x512x512.Idx → EReal) (hx : Small x) :
    Small (shapeCast S128x512x512 x shapeCasts_S2x64x512x512_S128x512x512) := fun i => hx _

/-- The modes of the planes, as images, are the answer. -/
theorem images_eq (x : S2x64x512x512.Idx → EReal) :
    shapeCast S2x64x256x256 (modesOf (k := 128) (nums (k := 128)
      (shapeCast S128x512x512 x shapeCasts_S2x64x512x512_S128x512x512))) shapeCasts_S128x256x256_S2x64x256x256 = answer x := by
  funext q
  obtain ⟨n, c, i, j, rfl⟩ : ∃ (n : Fin 2) (c : Fin 64) (i j : Fin 256), q = ix4 n c i j := by
    refine ⟨q 0, q 1, q 2, q 3, ?_⟩
    funext a
    match a with
    | ⟨0, _⟩ => rfl
    | ⟨1, _⟩ => rfl
    | ⟨2, _⟩ => rfl
    | ⟨3, _⟩ => rfl
  refine (images_apply _ n c i j).trans ?_
  have e : nums (k := 128) (shapeCast S128x512x512 x shapeCasts_S2x64x512x512_S128x512x512)
      (⟨n.val * 64 + c.val, by omega⟩ : Fin 128) = img x n c :=
    funext fun r => funext fun s => congrArg val (planes_apply x n c r s)
  show ((Mode.mode (win (nums (k := 128) (shapeCast S128x512x512 x shapeCasts_S2x64x512x512_S128x512x512)
    (⟨n.val * 64 + c.val, by omega⟩ : Fin 128)) i j) : ℝ) : EReal) = ((Mode.mode (win (img x n c) i j) : ℝ) : EReal)
  rw [e]

/-- The run of the kernel on small images: the answer in the result, the argument unchanged. -/
theorem run (ρ : Dev nD → PrngReg) (hx : ∀ c : Dev nD, Small (s := S2x64x512x512) (m ((c : Thread nD τ).loc main_arg0))) :
    θ_run (defs (F := Ideal)) (onTc (τ := τ) (main (F := Ideal))) ⟨m, fun _ => 0, ρ⟩ fun r => ∀ c : Dev nD,
      r.2.mem ((c : Thread nD τ).loc main_v44) = answer (m ((c : Thread nD τ).loc main_arg0))
      ∧ r.2.mem ((c : Thread nD τ).loc main_arg0) = m ((c : Thread nD τ).loc main_arg0) := by
  refine (θ_run defs _ _).mono (fun r h c => ⟨?_, ?_⟩) (run_main m ρ)
  · refine ((h c).2 main_v44 (Pipeline.mem_restRefs_of main_v44 (by decide) (by decide))).trans ?_
    have hw : Pipeline.withArrays (τ := τ) (cfgs 0).spec c (V0 m c) (fun w => (dats m 0 c).arrAt w (cfgs 0).N)
        (Proc.devRef .tc (Pipeline.arrRef spec0 3)) = arr m c :=
      (Pipeline.withArrays_arr spec0 (by decide) c (V0 m c) _ 3).trans
        (final m c (by rw [V_planes]; exact small_planes _ (hx c)))
    unfold Pipeline.afterTail₀
    have hs : ∀ W : Valuation τ sig (Elt Ideal), StableHlo.after (List.flatten [hostOps1]) W (Proc.devRef .tc main_v44)
        = shapeCast S2x64x256x256 (W (Proc.devRef .tc main_v43)) shapeCasts_S128x256x256_S2x64x256x256 := by
      intro W
      rw [List.flatten_singleton]
      after_results
      rfl
    refine (hs _).trans ?_
    refine (congrArg (fun y => shapeCast S2x64x256x256 y shapeCasts_S128x256x256_S2x64x256x256) hw).trans ?_
    unfold arr
    rw [V_planes]
    exact images_eq _
  · exact ((h c).2 main_arg0 (Pipeline.mem_restRefs_of main_arg0 (by decide) (by decide))).trans (W_main_arg0 m (dats m) c)

end Cert.KernelIdeal.Plane

end
-- ==== Proof.RefRun.lean ====
/-
  The run of the reference: its StableHLO operations in order, in three stages, and what each stage leaves in its last
  buffer as a function of the argument. The stages are the nine padded and strided slices sorted by value, the count of
  every sorted value with the position of the first greatest count, and the value taken at that position.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The images with one row and one column of zeros around them. -/
def padded (x : Vec F S2x64x512x512 .f32) : Vec F S2x64x514x514 .f32 :=
  pad S2x64x514x514 ![0, 0, 1, 1] ![0, 0, 1, 1] ![0, 0, 0, 0] x (sitofp .f32 (constantI S_ 32 0#32))
    pads_S2x64x512x512_S2x64x514x514_000_000_110_110 h_S_

/-- A slice as one layer of the nine. -/
def layer (y : Vec F S2x64x256x256 .f32) : Vec F S2x64x1x256x256 .f32 :=
  broadcastInDim S2x64x1x256x256 ![0, 1, 3, 4] bcast_S2x64x256x256_S2x64x1x256x256_0_1_3_4 y

/-- The nine values of every window, one layer for each place in the window. -/
def taps (x : Vec F S2x64x512x512 .f32) : Vec F S2x64x9x256x256 .f32 :=
  concatenate S2x64x9x256x256 2
    [⟨S2x64x1x256x256, layer (Host.slice S2x64x256x256 ![0, 0, 0, 0] ![1, 1, 2, 2] (padded x) slicesBy_S2x64x514x514_S2x64x256x256_0s1_0s1_0s2_0s2)⟩,
     ⟨S2x64x1x256x256, layer (Host.slice S2x64x256x256 ![0, 0, 0, 1] ![1, 1, 2, 2] (padded x) slicesBy_S2x64x514x514_S2x64x256x256_0s1_0s1_0s2_1s2)⟩,
     ⟨S2x64x1x256x256, layer (Host.slice S2x64x256x256 ![0, 0, 0, 2] ![1, 1, 2, 2] (padded x) slicesBy_S2x64x514x514_S2x64x256x256_0s1_0s1_0s2_2s2)⟩,
     ⟨S2x64x1x256x256, layer (Host.slice S2x64x256x256 ![0, 0, 1, 0] ![1, 1, 2, 2] (padded x) slicesBy_S2x64x514x514_S2x64x256x256_0s1_0s1_1s2_0s2)⟩,
     ⟨S2x64x1x256x256, layer (Host.slice S2x64x256x256 ![0, 0, 1, 1] ![1, 1, 2, 2] (padded x) slicesBy_S2x64x514x514_S2x64x256x256_0s1_0s1_1s2_1s2)⟩,
     ⟨S2x64x1x256x256, layer (Host.slice S2x64x256x256 ![0, 0, 1, 2] ![1, 1, 2, 2] (padded x) slicesBy_S2x64x514x514_S2x64x256x256_0s1_0s1_1s2_2s2)⟩,
     ⟨S2x64x1x256x256, layer (Host.slice S2x64x256x256 ![0, 0, 2, 0] ![1, 1, 2, 2] (padded x) slicesBy_S2x64x514x514_S2x64x256x256_0s1_0s1_2s2_0s2)⟩,
     ⟨S2x64x1x256x256, layer (Host.slice S2x64x256x256 ![0, 0, 2, 1] ![1, 1, 2, 2] (padded x) slicesBy_S2x64x514x514_S2x64x256x256_0s1_0s1_2s2_1s2)⟩,
     ⟨S2x64x1x256x256, layer (Host.slice S2x64x256x256 ![0, 0, 2, 2] ![1, 1, 2, 2] (padded x) slicesBy_S2x64x514x514_S2x64x256x256_0s1_0s1_2s2_2s2)⟩]
    concatenates_S2x64x1x256x256_S2x64x1x256x256_S2x64x1x256x256_S2x64x1x256x256_S2x64x1x256x256_S2x64x1x256x256_S2x64x1x256x256_S2x64x1x256x256_S2x64x1x256x256_S2x64x9x256x256_d2

/-- The nine values of every window in order. -/
def sorted (x : Vec F S2x64x512x512 .f32) : Vec F S2x64x9x256x256 .f32 :=
  Host.sort S2x64x9x256x256 2 comparator_f32_d2 (taps x)

/-- For every sorted value how many of the nine equal it. -/
def counts (s : Vec F S2x64x9x256x256 .f32) : IVec S2x64x9x256x256 32 :=
  Host.reduce IntOp.addi
    (extui 32 (cmpf .oeq
      (broadcastInDim S2x64x9x9x256x256 ![0, 1, 2, 3, 4, 5] bcast_S2x64x9x1x256x256_S2x64x9x9x256x256_0_1_2_3_4_5
        (broadcastInDim S2x64x9x1x256x256 ![0, 1, 2, 4, 5] bcast_S2x64x9x256x256_S2x64x9x1x256x256_0_1_2_4_5 s))
      (broadcastInDim S2x64x9x9x256x256 ![0, 1, 2, 3, 4, 5] bcast_S2x64x1x9x256x256_S2x64x9x9x256x256_0_1_2_3_4_5
        (broadcastInDim S2x64x1x9x256x256 ![0, 1, 3, 4, 5] bcast_S2x64x9x256x256_S2x64x1x9x256x256_0_1_3_4_5 s))) natLt_1_32)
    (constantI S_ 32 0#32) reducesTo_S2x64x9x9x256x256_S2x64x9x256x256_d3 h_S_

/-- The second word that a fold of pairs by the greater-first step ends with. -/
def firstGreatest {s t u : Shape} {axes : List (Fin s.rank)} (x y : s.Idx → BitVec 32) (a b : u.Idx → BitVec 32)
    (h : s.ReducesTo axes t) (hu : 0 < u.numel) : t.Idx → BitVec 32 :=
  fun j => (Host.reduce2 reducer_argmax_i32_i32 x y a b h hu j).2

/-- The position of the first greatest count. -/
def place (n : IVec S2x64x9x256x256 32) : IVec S2x64x256x256 32 :=
  firstGreatest n (iotaInDim S2x64x9x256x256 32 2) (constantI S_ 32 2147483648#32) (constantI S_ 32 0#32)
    reducesTo_S2x64x9x256x256_S2x64x256x256_d2 h_S_

/-- A position, nine added when it is negative, as a gather's start index. -/
def start (p : IVec S2x64x256x256 32) : IVec S2x64x1x256x256x1 32 :=
  shapeCast S2x64x1x256x256x1
    (select
      (cmpi .slt (broadcastInDim S2x64x1x256x256 ![0, 1, 3, 4] bcast_S2x64x256x256_S2x64x1x256x256_0_1_3_4 p)
        (broadcastInDim S2x64x1x256x256 ![] bcast_S_S2x64x1x256x256 (constantI S_ 32 0#32)))
      (addi (broadcastInDim S2x64x1x256x256 ![0, 1, 3, 4] bcast_S2x64x256x256_S2x64x1x256x256_0_1_3_4 p)
        (broadcastInDim S2x64x1x256x256 ![] bcast_S_S2x64x1x256x256 (constantI S_ 32 9#32)))
      (broadcastInDim S2x64x1x256x256 ![0, 1, 3, 4] bcast_S2x64x256x256_S2x64x1x256x256_0_1_3_4 p))
    shapeCasts_S2x64x1x256x256_S2x64x1x256x256x1

/-- Whether a start index lies in 0 to 8. -/
def inside (i : IVec S2x64x1x256x256x1 32) : IVec S2x64x1x256x256 1 :=
  Host.reduce IntOp.andi
    (andi
      (cmpi .sge i (broadcastInDim S2x64x1x256x256x1 ![] bcast_S_S2x64x1x256x256x1 (constantI S_ 32 0#32)))
      (cmpi .sle i (broadcastInDim S2x64x1x256x256x1 ![0, 1, 2, 3, 4, 5]
        bcast_S1x1x1x1x1x1_S2x64x1x256x256x1_0_1_2_3_4_5
        (broadcastInDim S1x1x1x1x1x1 ![5] bcast_S1_S1x1x1x1x1x1_5 (constantI S1 32 8#32)))))
    (constantI S_ 1 1#1) reducesTo_S2x64x1x256x256x1_S2x64x1x256x256_d5 h_S_

/-- The sorted value at a start index, where that is inside; the word of no number elsewhere. -/
def taken (s : Vec F S2x64x9x256x256 .f32) (i : IVec S2x64x1x256x256x1 32) : Vec F S2x64x1x256x256 .f32 :=
  select (inside i)
    (Host.gather gather_S2x64x9x256x256_S2x64x1x256x256x1_S2x64x1x256x256_n_2_0134_0134_2_5_11111 s i)
    (broadcastInDim S2x64x1x256x256 ![] bcast_S_S2x64x1x256x256 (constant S_ .f32 0x7FC00000#32))

/-- The reference's result as a function of its argument. -/
def result (x : Vec F S2x64x512x512 .f32) : Vec F S2x64x256x256 .f32 :=
  shapeCast S2x64x256x256 (taken (sorted x) (start (place (counts (sorted x))))) shapeCasts_S2x64x1x256x256_S2x64x256x256

/-- The first stage: padding, slicing, sorting. -/
abbrev opsSort : List (HloOp τ sig (Elt F)) :=
  [ nullary main_c (constantI S_ 32 0#32),
    unary main_c main_call0_v0 (sitofp .f32),
    binary main_arg0 main_call0_v0 main_v0 (fun x v => pad S2x64x514x514 ![0, 0, 1, 1] ![0, 0, 1, 1] ![0, 0, 0, 0] x v pads_S2x64x512x512_S2x64x514x514_000_000_110_110 h_S_),
    unary main_v0 main_v1 ((Host.slice S2x64x256x256 ![0, 0, 0, 0] ![1, 1, 2, 2] · slicesBy_S2x64x514x514_S2x64x256x256_0s1_0s1_0s2_0s2) : (⟨S2x64x514x514, .f32⟩ : BufTy).Contents (Elt F) → (⟨S2x64x256x256, .f32⟩ : BufTy).Contents (Elt F)),
    unary main_v0 main_v2 ((Host.slice S2x64x256x256 ![0, 0, 0, 1] ![1, 1, 2, 2] · slicesBy_S2x64x514x514_S2x64x256x256_0s1_0s1_0s2_1s2) : (⟨S2x64x514x514, .f32⟩ : BufTy).Contents (Elt F) → (⟨S2x64x256x256, .f32⟩ : BufTy).Contents (Elt F)),
    unary main_v0 main_v3 ((Host.slice S2x64x256x256 ![0, 0, 0, 2] ![1, 1, 2, 2] · slicesBy_S2x64x514x514_S2x64x256x256_0s1_0s1_0s2_2s2) : (⟨S2x64x514x514, .f32⟩ : BufTy).Contents (Elt F) → (⟨S2x64x256x256, .f32⟩ : BufTy).Contents (Elt F)),
    unary main_v0 main_v4 ((Host.slice S2x64x256x256 ![0, 0, 1, 0] ![1, 1, 2, 2] · slicesBy_S2x64x514x514_S2x64x256x256_0s1_0s1_1s2_0s2) : (⟨S2x64x514x514, .f32⟩ : BufTy).Contents (Elt F) → (⟨S2x64x256x256, .f32⟩ : BufTy).Contents (Elt F)),
    unary main_v0 main_v5 ((Host.slice S2x64x256x256 ![0, 0, 1, 1] ![1, 1, 2, 2] · slicesBy_S2x64x514x514_S2x64x256x256_0s1_0s1_1s2_1s2) : (⟨S2x64x514x514, .f32⟩ : BufTy).Contents (Elt F) → (⟨S2x64x256x256, .f32⟩ : BufTy).Contents (Elt F)),
    unary main_v0 main_v6 ((Host.slice S2x64x256x256 ![0, 0, 1, 2] ![1, 1, 2, 2] · slicesBy_S2x64x514x514_S2x64x256x256_0s1_0s1_1s2_2s2) : (⟨S2x64x514x514, .f32⟩ : BufTy).Contents (Elt F) → (⟨S2x64x256x256, .f32⟩ : BufTy).Contents (Elt F)),
    unary main_v0 main_v7 ((Host.slice S2x64x256x256 ![0, 0, 2, 0] ![1, 1, 2, 2] · slicesBy_S2x64x514x514_S2x64x256x256_0s1_0s1_2s2_0s2) : (⟨S2x64x514x514, .f32⟩ : BufTy).Contents (Elt F) → (⟨S2x64x256x256, .f32⟩ : BufTy).Contents (Elt F)),
    unary main_v0 main_v8 ((Host.slice S2x64x256x256 ![0, 0, 2, 1] ![1, 1, 2, 2] · slicesBy_S2x64x514x514_S2x64x256x256_0s1_0s1_2s2_1s2) : (⟨S2x64x514x514, .f32⟩ : BufTy).Contents (Elt F) → (⟨S2x64x256x256, .f32⟩ : BufTy).Contents (Elt F)),
    unary main_v0 main_v9 ((Host.slice S2x64x256x256 ![0, 0, 2, 2] ![1, 1, 2, 2] · slicesBy_S2x64x514x514_S2x64x256x256_0s1_0s1_2s2_2s2) : (⟨S2x64x514x514, .f32⟩ : BufTy).Contents (Elt F) → (⟨S2x64x256x256, .f32⟩ : BufTy).Contents (Elt F)),
    unary main_v1 main_v10 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v2 main_v11 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v3 main_v12 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v4 main_v13 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v5 main_v14 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v6 main_v15 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v7 main_v16 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v8 main_v17 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v9 main_v18 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    nary ![main_v10, main_v11, main_v12, main_v13, main_v14, main_v15, main_v16, main_v17, main_v18] main_v19 (fun u => (concatenate S2x64x9x256x256 2 [⟨S2x64x1x256x256, (u 0 : (⟨S2x64x1x256x256, .f32⟩ : BufTy).Contents (Elt F))⟩, ⟨S2x64x1x256x256, (u 1 : (⟨S2x64x1x256x256, .f32⟩ : BufTy).Contents (Elt F))⟩, ⟨S2x64x1x256x256, (u 2 : (⟨S2x64x1x256x256, .f32⟩ : BufTy).Contents (Elt F))⟩, ⟨S2x64x1x256x256, (u 3 : (⟨S2x64x1x256x256, .f32⟩ : BufTy).Contents (Elt F))⟩, ⟨S2x64x1x256x256, (u 4 : (⟨S2x64x1x256x256, .f32⟩ : BufTy).Contents (Elt F))⟩, ⟨S2x64x1x256x256, (u 5 : (⟨S2x64x1x256x256, .f32⟩ : BufTy).Contents (Elt F))⟩, ⟨S2x64x1x256x256, (u 6 : (⟨S2x64x1x256x256, .f32⟩ : BufTy).Contents (Elt F))⟩, ⟨S2x64x1x256x256, (u 7 : (⟨S2x64x1x256x256, .f32⟩ : BufTy).Contents (Elt F))⟩, ⟨S2x64x1x256x256, (u 8 : (⟨S2x64x1x256x256, .f32⟩ : BufTy).Contents (Elt F))⟩] concatenates_S2x64x1x256x256_S2x64x1x256x256_S2x64x1x256x256_S2x64x1x256x256_S2x64x1x256x256_S2x64x1x256x256_S2x64x1x256x256_S2x64x1x256x256_S2x64x1x256x256_S2x64x9x256x256_d2 : (⟨S2x64x9x256x256, .f32⟩ : BufTy).Contents (Elt F))),
    unary main_v19 main_v20 (fun x => Host.sort S2x64x9x256x256 2 comparator_f32_d2 x) ]

/-- The second stage: counting and the first greatest count's position. -/
abbrev opsCount : List (HloOp τ sig (Elt F)) :=
  [ unary main_v20 main_v21 (broadcastInDim S2x64x9x1x256x256 ![0, 1, 2, 4, 5] bcast_S2x64x9x256x256_S2x64x9x1x256x256_0_1_2_4_5 : (⟨S2x64x9x256x256, .f32⟩ : BufTy).Contents (Elt F) → (⟨S2x64x9x1x256x256, .f32⟩ : BufTy).Contents (Elt F)),
    unary main_v20 main_v22 (broadcastInDim S2x64x1x9x256x256 ![0, 1, 3, 4, 5] bcast_S2x64x9x256x256_S2x64x1x9x256x256_0_1_3_4_5 : (⟨S2x64x9x256x256, .f32⟩ : BufTy).Contents (Elt F) → (⟨S2x64x1x9x256x256, .f32⟩ : BufTy).Contents (Elt F)),
    unary main_v21 main_v23 (broadcastInDim S2x64x9x9x256x256 ![0, 1, 2, 3, 4, 5] bcast_S2x64x9x1x256x256_S2x64x9x9x256x256_0_1_2_3_4_5 : (⟨S2x64x9x1x256x256, .f32⟩ : BufTy).Contents (Elt F) → (⟨S2x64x9x9x256x256, .f32⟩ : BufTy).Contents (Elt F)),
    unary main_v22 main_v24 (broadcastInDim S2x64x9x9x256x256 ![0, 1, 2, 3, 4, 5] bcast_S2x64x1x9x256x256_S2x64x9x9x256x256_0_1_2_3_4_5 : (⟨S2x64x1x9x256x256, .f32⟩ : BufTy).Contents (Elt F) → (⟨S2x64x9x9x256x256, .f32⟩ : BufTy).Contents (Elt F)),
    binary main_v23 main_v24 main_v25 (cmpf .oeq : (⟨S2x64x9x9x256x256, .f32⟩ : BufTy).Contents (Elt F) → (⟨S2x64x9x9x256x256, .f32⟩ : BufTy).Contents (Elt F) → (⟨S2x64x9x9x256x256, .i1⟩ : BufTy).Contents (Elt F)),
    unary main_v25 main_v26 ((extui 32 · natLt_1_32) : (⟨S2x64x9x9x256x256, .i1⟩ : BufTy).Contents (Elt F) → (⟨S2x64x9x9x256x256, .i32⟩ : BufTy).Contents (Elt F)),
    nullary main_c_0 (constantI S_ 32 0#32),
    binary main_v26 main_c_0 main_v27 ((fun x v => Host.reduce IntOp.addi x v reducesTo_S2x64x9x9x256x256_S2x64x9x256x256_d3 h_S_) : (⟨S2x64x9x9x256x256, .i32⟩ : BufTy).Contents (Elt F) → (⟨S_, .i32⟩ : BufTy).Contents (Elt F) → (⟨S2x64x9x256x256, .i32⟩ : BufTy).Contents (Elt F)),
    nullary main_call2_v0 (iotaInDim S2x64x9x256x256 32 2),
    nullary main_call2_c (constantI S_ 32 2147483648#32),
    nullary main_call2_c_0 (constantI S_ 32 0#32),
    quaternary main_v27 main_call2_v0 main_call2_c main_call2_c_0 main_call2_v1_0 (fun x y u v j => (Host.reduce2 reducer_argmax_i32_i32 x y u v reducesTo_S2x64x9x256x256_S2x64x256x256_d2 h_S_ j).1),
    quaternary main_v27 main_call2_v0 main_call2_c main_call2_c_0 main_v28 (fun x y u v j => (Host.reduce2 reducer_argmax_i32_i32 x y u v reducesTo_S2x64x9x256x256_S2x64x256x256_d2 h_S_ j).2) ]

/-- The third stage: taking the value at the position; `o` is the operation that says whether the position is inside. -/
abbrev opsTakeWith (o : HloOp τ sig (Elt F)) : List (HloOp τ sig (Elt F)) :=
  [ unary main_v28 main_v29 (broadcastInDim S2x64x1x256x256 ![0, 1, 3, 4] bcast_S2x64x256x256_S2x64x1x256x256_0_1_3_4 : (⟨S2x64x256x256, .i32⟩ : BufTy).Contents (Elt F) → (⟨S2x64x1x256x256, .i32⟩ : BufTy).Contents (Elt F)),
    nullary main_call3_c (constantI S_ 32 0#32),
    unary main_call3_c main_call3_v0 (broadcastInDim S2x64x1x256x256 ![] bcast_S_S2x64x1x256x256),
    binary main_v29 main_call3_v0 main_call3_v1 (cmpi .slt),
    nullary main_call3_c_0 (constantI S_ 32 9#32),
    unary main_call3_c_0 main_call3_v2 (broadcastInDim S2x64x1x256x256 ![] bcast_S_S2x64x1x256x256),
    binary main_v29 main_call3_v2 main_call3_v3 addi,
    ternary main_call3_v1 main_call3_v3 main_v29 main_call3_v4 select,
    reshape main_call3_v4 main_call3_v5 (rfl : (.i32 : EltTy) = .i32) shapeCasts_S2x64x1x256x256_S2x64x1x256x256x1,
    nullary main_call3_c_1 (constantI S1 32 8#32),
    nullary main_call3_c_2 (constantI S_ 32 0#32),
    unary main_call3_c_2 main_call3_v6 (broadcastInDim S2x64x1x256x256x1 ![] bcast_S_S2x64x1x256x256x1),
    binary main_call3_v5 main_call3_v6 main_call3_v7 (cmpi .sge),
    unary main_call3_c_1 main_call3_v8 (broadcastInDim S1x1x1x1x1x1 ![5] bcast_S1_S1x1x1x1x1x1_5),
    unary main_call3_v8 main_call3_v9 (broadcastInDim S2x64x1x256x256x1 ![0, 1, 2, 3, 4, 5] bcast_S1x1x1x1x1x1_S2x64x1x256x256x1_0_1_2_3_4_5),
    binary main_call3_v5 main_call3_v9 main_call3_v10 (cmpi .sle),
    binary main_call3_v7 main_call3_v10 main_call3_v11 andi,
    nullary main_call3_c_3 (constantI S_ 1 1#1),
    o,
    binary main_v20 main_call3_v5 main_call3_v13 (fun x i => Host.gather gather_S2x64x9x256x256_S2x64x1x256x256x1_S2x64x1x256x256_n_2_0134_0134_2_5_11111 x i),
    nullary main_call3_cst (constant S_ .f32 0x7FC00000#32),
    unary main_call3_cst main_call3_v14 (broadcastInDim S2x64x1x256x256 ![] bcast_S_S2x64x1x256x256),
    ternary main_call3_v12 main_call3_v13 main_call3_v14 main_v30 select,
    reshape main_v30 main_v31 (rfl : (.f32 : EltTy) = .f32) shapeCasts_S2x64x1x256x256_S2x64x256x256 ]

/-- The reduction that says whether the position is inside. -/
abbrev insideFn (x : (⟨S2x64x1x256x256x1, .i1⟩ : BufTy).Contents (Elt F)) (v : (⟨S_, .i1⟩ : BufTy).Contents (Elt F)) :
    (⟨S2x64x1x256x256, .i1⟩ : BufTy).Contents (Elt F) :=
  Host.reduce IntOp.andi x v reducesTo_S2x64x1x256x256x1_S2x64x1x256x256_d5 h_S_

/-- The third stage. -/
abbrev opsTake : List (HloOp τ sig (Elt F)) :=
  opsTakeWith (binary main_call3_v11 main_call3_c_3 main_call3_v12 insideFn)

/-- All operations in order. -/
abbrev ops : List (HloOp τ sig (Elt F)) := opsSort ++ (opsCount ++ opsTake)

/-- That operation as a module-local function states it is the operation on the buffers, whatever it computes. -/
theorem inside_op (f : (⟨S2x64x1x256x256x1, .i1⟩ : BufTy).Contents (Elt F) → (⟨S_, .i1⟩ : BufTy).Contents (Elt F) →
      (⟨S2x64x1x256x256, .i1⟩ : BufTy).Contents (Elt F)) :
    (TRef.binary (.of main_call3_v11) (.of main_call3_c_3) (.of main_call3_v12) f : HloOp τ sig (Elt F))
      = binary main_call3_v11 main_call3_c_3 main_call3_v12 f := rfl

/-- The program is that straight line. -/
theorem main_eq (c : Dev nD) : main (F := F) c = seq ops := by
  have h : main (F := F) c = seq (opsSort ++ (opsCount ++ opsTakeWith
      (TRef.binary (.of main_call3_v11) (.of main_call3_c_3) (.of main_call3_v12) insideFn))) := rfl
  rw [h, inside_op]

/-- After the first stage the sorted windows stand in their buffer. -/
theorem sort_eq (V : Valuation τ sig (Elt F)) :
    after opsSort V (main_v20 : DevRef τ sig) = sorted (V (main_arg0 : DevRef τ sig)) := by
  after_results
  rfl

/-- The second stage leaves the sorted windows alone, -/
theorem count_keeps (V : Valuation τ sig (Elt F)) :
    after opsCount V (main_v20 : DevRef τ sig) = V (main_v20 : DevRef τ sig) := by
  after_results

/-- and leaves the positions in their buffer. -/
theorem count_eq (V : Valuation τ sig (Elt F)) :
    after opsCount V (main_v28 : DevRef τ sig) = place (counts (V (main_v20 : DevRef τ sig))) := by
  after_results
  rfl

/-- The third stage leaves the values taken in the result's buffer. -/
theorem take_eq (V : Valuation τ sig (Elt F)) :
    after opsTake V (main_v31 : DevRef τ sig)
      = shapeCast S2x64x256x256 (taken (V (main_v20 : DevRef τ sig)) (start (V (main_v28 : DevRef τ sig))))
          shapeCasts_S2x64x1x256x256_S2x64x256x256 := by
  after_results
  rfl

/-- A fold over two lists in turn. -/
theorem after_two (l k : List (HloOp τ sig (Elt F))) (V : Valuation τ sig (Elt F)) :
    after (l ++ k) V = after k (after l V) := by
  induction l generalizing V with
  | nil => rfl
  | cons o l ih => exact ih _

/-- The whole fold at the result's buffer. -/
theorem result_eq (V : Valuation τ sig (Elt F)) :
    after ops V (main_v31 : DevRef τ sig) = result (V (main_arg0 : DevRef τ sig)) := by
  rw [after_two, after_two, take_eq, count_eq, count_keeps, sort_eq]
  rfl

/-- The argument keeps its contents. -/
theorem arg_eq (V : Valuation τ sig (Elt F)) :
    after ops V (main_arg0 : DevRef τ sig) = V (main_arg0 : DevRef τ sig) := by
  rw [after_two, after_two]
  after_results

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches the host's buffers only, stage by stage. -/
theorem sort_sub : (opsSort : List (HloOp τ sig (Elt F))).Forall fun op => op.bufs ⊆ tcRefs τ sig :=
  ⟨nullary_bufs_sub .., unary_bufs_sub .., binary_bufs_sub .., unary_bufs_sub .., unary_bufs_sub ..,
    unary_bufs_sub .., unary_bufs_sub .., unary_bufs_sub .., unary_bufs_sub .., unary_bufs_sub ..,
    unary_bufs_sub .., unary_bufs_sub .., unary_bufs_sub .., unary_bufs_sub .., unary_bufs_sub ..,
    unary_bufs_sub .., unary_bufs_sub .., unary_bufs_sub .., unary_bufs_sub .., unary_bufs_sub ..,
    unary_bufs_sub .., nary_bufs_sub .., unary_bufs_sub ..⟩
theorem count_sub : (opsCount : List (HloOp τ sig (Elt F))).Forall fun op => op.bufs ⊆ tcRefs τ sig :=
  ⟨unary_bufs_sub .., unary_bufs_sub .., unary_bufs_sub .., unary_bufs_sub .., binary_bufs_sub ..,
    unary_bufs_sub .., nullary_bufs_sub .., binary_bufs_sub .., nullary_bufs_sub .., nullary_bufs_sub ..,
    nullary_bufs_sub .., quaternary_bufs_sub .., quaternary_bufs_sub ..⟩
theorem take_sub : (opsTake : List (HloOp τ sig (Elt F))).Forall fun op => op.bufs ⊆ tcRefs τ sig :=
  ⟨unary_bufs_sub .., nullary_bufs_sub .., unary_bufs_sub .., binary_bufs_sub .., nullary_bufs_sub ..,
    unary_bufs_sub .., binary_bufs_sub .., ternary_bufs_sub .., reshape_bufs_sub .., nullary_bufs_sub ..,
    nullary_bufs_sub .., unary_bufs_sub .., binary_bufs_sub .., unary_bufs_sub .., unary_bufs_sub ..,
    binary_bufs_sub .., binary_bufs_sub .., nullary_bufs_sub .., binary_bufs_sub .., binary_bufs_sub ..,
    nullary_bufs_sub .., unary_bufs_sub .., ternary_bufs_sub .., reshape_bufs_sub ..⟩

/-- Every operation touches the host's buffers only. -/
theorem ops_sub : (ops : List (HloOp τ sig (Elt F))).Forall fun op => op.bufs ⊆ tcRefs τ sig := by
  rw [List.forall_append, List.forall_append]
  exact ⟨sort_sub, count_sub, take_sub⟩

/-- From any memory with zero counters every execution ends, with the result's buffer holding `result` of the argument
    and the argument unchanged. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v31) = result (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨fun c => ⟨(h c main_v31).trans (result_eq _), (h c main_arg0).trans (arg_eq _)⟩,
      Idealize.ShloMosaic.sem_eq_zero_of_no_sems (by decide) r.2⟩)
    (run_seq scopedRefs_eq scopedSems_eq defs main (fun _ => ops) main_eq (fun _ => ops_sub) m ρ)

end Cert.ReferenceIdeal.Run

end
-- ==== Proof.RefTaps.lean ====
/-
  The reference's nine layers at an index: the nine values of the window.
-/
module

public import proofs.«01_k».proof.Proof.RefRun
public import proofs.«01_k».proof.Proof.Window

@[expose] public section

noncomputable section

namespace Cert.ReferenceIdeal.Taps

open Cert.ReferenceIdeal Cert.ReferenceIdeal.Gen Cert.ReferenceIdeal.Run Cert.Window
open Idealize.ShloMosaic

/-- The padded images at an index: the cell of the plane. -/
theorem padded_apply (x : S2x64x512x512.Idx → EReal) (hx : Small x) (n : Fin 2) (c : Fin 64) (r s : Fin 514) :
    padded (F := Ideal) x (ix4 n c r s) = ((cell (img x n c) r.val s.val : ℝ) : EReal) := by
  unfold padded cell
  rw [pad_apply]
  have e0 : (sitofp (F := Ideal) .f32 (constantI S_ 32 0#32)) (Shape.Idx.first h_S_) = ((0 : ℝ) : EReal) := by
    show (((0#32 : BitVec 32).toInt : ℝ) : EReal) = _
    simp
  by_cases h : (0 < r.val ∧ r.val - 1 < 512) ∧ (0 < s.val ∧ s.val - 1 < 512)
  · rw [dif_pos h, dif_pos]
    · have := (hx (ix4 n c ⟨r.val - 1, h.1.2⟩ ⟨s.val - 1, h.2.2⟩)).1
      unfold img
      rw [← this]
      congr 1
      funext a
      match a with
      | ⟨0, _⟩ => apply Fin.ext; simp [Shape.Idx.norm_def]
      | ⟨1, _⟩ => apply Fin.ext; simp [Shape.Idx.norm_def]
      | ⟨2, _⟩ => apply Fin.ext; simp [Shape.Idx.norm_def]
      | ⟨3, _⟩ => apply Fin.ext; simp [Shape.Idx.norm_def]
    · intro a
      match a with
      | ⟨0, _⟩ => exact ⟨Nat.zero_le _, Nat.mod_one _, by simpa using n.isLt⟩
      | ⟨1, _⟩ => exact ⟨Nat.zero_le _, Nat.mod_one _, by simpa using c.isLt⟩
      | ⟨2, _⟩ => exact ⟨h.1.1, Nat.mod_one _, by simpa using h.1.2⟩
      | ⟨3, _⟩ => exact ⟨h.2.1, Nat.mod_one _, by simpa using h.2.2⟩
  · rw [dif_neg h, dif_neg, e0]
    · simp
    · intro hin
      have h2 := hin ⟨2, by decide⟩
      have h3 := hin ⟨3, by decide⟩
      refine h ⟨⟨h2.1, ?_⟩, ⟨h3.1, ?_⟩⟩
      · simpa using h2.2.2
      · simpa using h3.2.2

/-- A strided slice of the padded images, as a layer, at an index. -/
theorem layer_apply (x : S2x64x512x512.Idx → EReal) (hx : Small x) (n : Fin 2) (c : Fin 64) (i j : Fin 256) (u v : ℕ)
    (hu : u < 3) (hv : v < 3) (h : S2x64x514x514.SlicesBy (![0, 0, u, v] : Fin 4 → Nat) ![1, 1, 2, 2] S2x64x256x256)
    (z : Fin 1) :
    layer (F := Ideal) (Host.slice S2x64x256x256 ![0, 0, u, v] ![1, 1, 2, 2] (padded (F := Ideal) x) h) (ix5 n c z i j)
      = ((cell (img x n c) (2 * i.val + u) (2 * j.val + v) : ℝ) : EReal) := by
  have := padded_apply x hx n c ⟨2 * i.val + u, by omega⟩ ⟨2 * j.val + v, by omega⟩
  rw [← this]
  unfold layer
  pointwise
  congr 1
  funext a
  match a with
  | ⟨0, _⟩ => apply Fin.ext; simp
  | ⟨1, _⟩ => apply Fin.ext; simp
  | ⟨2, _⟩ => apply Fin.ext; simp; omega
  | ⟨3, _⟩ => apply Fin.ext; simp; omega

/-- The nine layers at an index: the window's value at that place. -/
theorem taps_apply (x : S2x64x512x512.Idx → EReal) (hx : Small x) (n : Fin 2) (c : Fin 64) (k : Fin 9) (i j : Fin 256) :
    taps (F := Ideal) x (ix5 n c k i j) = ((win (img x n c) i j k : ℝ) : EReal) := by
  unfold taps
  fin_cases k
  all_goals pointwise
  all_goals rw [layer_apply x hx n c i j _ _ (by decide) (by decide)]
  all_goals rfl

end Cert.ReferenceIdeal.Taps

end
-- ==== Proof.RefSort.lean ====
/-
  The reference's sorted windows at an index, the count of each sorted value, and the position of the first greatest
  count.
-/
module

public import proofs.«01_k».proof.Proof.RefTaps
public import Idealize.ShloMosaic.Lib.SortFacts

@[expose] public section

noncomputable section

namespace Cert.ReferenceIdeal.Sort

open Cert.ReferenceIdeal Cert.ReferenceIdeal.Gen Cert.ReferenceIdeal.Run Cert.ReferenceIdeal.Taps Cert.Window
open Idealize.ShloMosaic

/-- The sort's comparison of two natural numbers: less than. -/
theorem before_nat (a b : ℕ) :
    (comparator_f32_d2 (F := Ideal) ((a : ℝ) : EReal) ((b : ℝ) : EReal) == 1#1) = decide (a < b) := by
  have z : (FloatOps.ofBits (F := Ideal) .f32 0x00000000#32) = (0 : EReal) := Ideal.ofBits_zero_f32
  have s0 : ∀ l : EReal, Scalar.select (FloatOps.cmpf (F := Ideal) (φ := .f32) .oeq l 0) 0 l = l := fun l => by
    unfold Scalar.select
    split
    · rename_i h
      change Ideal.cmp .oeq l 0 = 1 at h
      by_contra hn
      simp [Ideal.cmp, Ne.symm hn] at h
    · rfl
  have s1 : ∀ (l : EReal) (u : EReal), Scalar.select (FloatOps.cmpf (F := Ideal) (φ := .f32) .une l l) u l = l := fun l u => by
    have : FloatOps.cmpf (F := Ideal) (φ := .f32) .une l l = 0#1 := by
      change Ideal.cmp .une l l = _
      simp [Ideal.cmp]
    rw [this]; rfl
  unfold comparator_f32_d2
  simp only [z, s0, s1]
  change (Ideal.cmp .olt _ _ == 1#1) = _
  by_cases h : a < b
  · simp [Ideal.cmp, h]
  · simp [Ideal.cmp, h]

/-- A sort along the layers at an index: the element at the place the sort takes it from. -/
theorem sort_at (y : S2x64x9x256x256.Idx → EReal) (cmp : EReal → EReal → BitVec 1) (n : Fin 2) (c : Fin 64) (k : Fin 9)
    (i j : Fin 256) :
    Host.sort S2x64x9x256x256 2 cmp y (ix5 n c k i j)
      = y (Shape.Idx.along (s := S2x64x9x256x256) (ix5 n c k i j) (2 : Fin 5) (sortedFrom (fun a b : Fin 9 =>
          cmp (y (Shape.Idx.along (s := S2x64x9x256x256) (ix5 n c k i j) (2 : Fin 5) a))
            (y (Shape.Idx.along (s := S2x64x9x256x256) (ix5 n c k i j) (2 : Fin 5) b)) == 1#1) k)) := rfl

/-- The sorted windows at an index: the window's values rearranged, in order. -/
theorem sorted_apply (x : S2x64x512x512.Idx → EReal) (hx : Small x) (n : Fin 2) (c : Fin 64) (i j : Fin 256) :
    ∃ σ : Fin 9 → Fin 9, Function.Bijective σ ∧ Monotone (fun k => win (img x n c) i j (σ k))
      ∧ ∀ k, sorted (F := Ideal) x (ix5 n c k i j) = ((win (img x n c) i j (σ k) : ℝ) : EReal) := by
  let w := win (img x n c) i j
  let before : Fin 9 → Fin 9 → Bool := fun k k' => decide (w k < w k')
  refine ⟨sortedFrom before, ⟨sortedFrom_injective _, sortedFrom_surjective _⟩, ?_, fun k => ?_⟩
  · intro k l hkl
    rcases eq_or_lt_of_le hkl with rfl | hlt
    · exact le_rfl
    · have h := sortedFrom_noInversion before before
        (fun a b h => by simp only [before, decide_eq_true_eq, decide_eq_false_iff_not] at h ⊢; omega) (fun _ _ h => h)
        (fun a b c h h' => by simp only [before, decide_eq_false_iff_not] at h h' ⊢; omega) k l hlt
      simp only [before, decide_eq_false_iff_not, not_lt] at h
      exact h
  · have ha : ∀ k' : Fin 9,
        Shape.Idx.along (s := S2x64x9x256x256) (ix5 n c k i j) (2 : Fin 5) k' = ix5 n c k' i j := by
      intro k'
      funext a
      match a with
      | ⟨0, _⟩ => rfl
      | ⟨1, _⟩ => rfl
      | ⟨2, _⟩ => rfl
      | ⟨3, _⟩ => rfl
      | ⟨4, _⟩ => rfl
    have hb : (fun a b : Fin 9 => comparator_f32_d2 (F := Ideal)
        (taps (F := Ideal) x (Shape.Idx.along (s := S2x64x9x256x256) (ix5 n c k i j) (2 : Fin 5) a))
        (taps (F := Ideal) x (Shape.Idx.along (s := S2x64x9x256x256) (ix5 n c k i j) (2 : Fin 5) b)) == 1#1) = before := by
      funext a b
      rw [ha, ha, taps_apply x hx, taps_apply x hx, before_nat]
    unfold sorted
    rw [sort_at, hb]
    exact (congrArg (taps (F := Ideal) x) (ha (sortedFrom before k))).trans (taps_apply x hx n c _ i j)

/-- The indices over which the counts are summed. -/
theorem fiber_counts (n : Fin 2) (c : Fin 64) (k : Fin 9) (i j : Fin 256) (q : S2x64x9x9x256x256.Idx) :
    Shape.ReducesTo.drop reducesTo_S2x64x9x9x256x256_S2x64x9x256x256_d3 q = ix5 n c k i j
      ↔ ∃ l : Fin 9, (ix6 n c k l i j : S2x64x9x9x256x256.Idx) = q := by
  constructor
  · intro e
    refine ⟨q 3, ?_⟩
    funext a
    match a with
    | ⟨0, _⟩ => exact (congrFun e 0).symm
    | ⟨1, _⟩ => exact (congrFun e 1).symm
    | ⟨2, _⟩ => exact (congrFun e 2).symm
    | ⟨3, _⟩ => rfl
    | ⟨4, _⟩ => exact (congrFun e 3).symm
    | ⟨5, _⟩ => exact (congrFun e 4).symm
  · rintro ⟨l, rfl⟩
    funext a
    match a with
    | ⟨0, _⟩ => rfl
    | ⟨1, _⟩ => rfl
    | ⟨2, _⟩ => rfl
    | ⟨3, _⟩ => rfl
    | ⟨4, _⟩ => rfl

/-- A sum of zeros and ones as words is the number of ones. -/
theorem fold_ones (p : Fin 9 → Prop) [DecidablePred p] (s : Finset (Fin 9)) :
    s.fold IntOp.addi 0#32 (fun l => if p l then 1#32 else 0#32) = BitVec.ofNat 32 (s.filter p).card := by
  induction s using Finset.induction_on with
  | empty => rfl
  | insert a s ha ih =>
    rw [Finset.fold_insert ha, ih, Finset.filter_insert]
    by_cases h : p a
    · rw [if_pos h, if_pos h, Finset.card_insert_of_notMem (by simp [ha])]
      unfold IntOp.addi
      rw [Nat.add_comm, BitVec.ofNat_add]
    · rw [if_neg h, if_neg h]
      unfold IntOp.addi
      exact BitVec.zero_add _

/-- The counts at an index, where the sorted values are natural numbers. -/
theorem counts_apply (s : S2x64x9x256x256.Idx → EReal) (w : Fin 9 → ℕ) (n : Fin 2) (c : Fin 64) (i j : Fin 256)
    (hs : ∀ k, s (ix5 n c k i j) = ((w k : ℝ) : EReal)) (k : Fin 9) :
    counts (F := Ideal) s (ix5 n c k i j) = BitVec.ofNat 32 (Mode.count w (w k)) := by
  unfold counts
  rw [Host.reduce_eq_fold, Finset.fold_filter_eq_fold_of_fiber IntOp.addi _
    (fun l : Fin 9 => (ix6 n c k l i j : S2x64x9x9x256x256.Idx)) (fun _ _ e => congrFun e 3) (fiber_counts n c k i j)]
  unfold Mode.count
  rw [← fold_ones]
  congr 1
  funext l
  have e1 : ∀ l, extui 32 (cmpf (F := Ideal) (φ := .f32) .oeq
      (broadcastInDim S2x64x9x9x256x256 ![0, 1, 2, 3, 4, 5] bcast_S2x64x9x1x256x256_S2x64x9x9x256x256_0_1_2_3_4_5
        (broadcastInDim S2x64x9x1x256x256 ![0, 1, 2, 4, 5] bcast_S2x64x9x256x256_S2x64x9x1x256x256_0_1_2_4_5 s))
      (broadcastInDim S2x64x9x9x256x256 ![0, 1, 2, 3, 4, 5] bcast_S2x64x1x9x256x256_S2x64x9x9x256x256_0_1_2_3_4_5
        (broadcastInDim S2x64x1x9x256x256 ![0, 1, 3, 4, 5] bcast_S2x64x9x256x256_S2x64x1x9x256x256_0_1_3_4_5 s))) natLt_1_32
      (ix6 n c k l i j) = (Ideal.cmp .oeq (s (ix5 n c k i j)) (s (ix5 n c l i j))).setWidth 32 := by
    intro l
    pointwise
  rw [e1, hs, hs]
  by_cases h : w l = w k
  · simp [Ideal.cmp, h]
  · simp [Ideal.cmp, h, Ne.symm h]

end Cert.ReferenceIdeal.Sort

end
-- ==== Proof.RefPlace.lean ====
/-
  The reference's position of the first greatest count, and the sorted value taken there: the mode.
-/
module

public import proofs.«01_k».proof.Proof.RefSort

@[expose] public section

noncomputable section

namespace Cert.ReferenceIdeal.Place

open Cert.ReferenceIdeal Cert.ReferenceIdeal.Gen Cert.ReferenceIdeal.Run Cert.ReferenceIdeal.Sort Cert.Window
open Idealize.ShloMosaic

/-- One pair of a value and a position is at least as good as another: a greater value, or the same at no later position. -/
def Better (a b : BitVec 32 × BitVec 32) : Prop := b.1.toInt < a.1.toInt ∨ (a.1 = b.1 ∧ a.2.toInt ≤ b.2.toInt)

/-- Being at least as good is transitive. -/
theorem Better.trans {a b c : BitVec 32 × BitVec 32} (h : Better a b) (h' : Better b c) : Better a c := by
  rcases h with h | ⟨h, h1⟩ <;> rcases h' with h' | ⟨h', h1'⟩
  · exact Or.inl (h'.trans h)
  · exact Or.inl (h' ▸ h)
  · exact Or.inl (h ▸ h')
  · exact Or.inr ⟨h.trans h', h1.trans h1'⟩

/-- The reduction's step returns one of its two pairs, and one at least as good as both. -/
theorem step (a b : BitVec 32 × BitVec 32) :
    (reducer_argmax_i32_i32 a b = a ∨ reducer_argmax_i32_i32 a b = b)
      ∧ Better (reducer_argmax_i32_i32 a b) a ∧ Better (reducer_argmax_i32_i32 a b) b := by
  obtain ⟨a1, a2⟩ := a
  obtain ⟨b1, b2⟩ := b
  have h0 : reducer_argmax_i32_i32 (a1, a2) (b1, b2)
      = (if b1.slt a1 then a1 else b1, if b1.slt a1 || (a1 == b1 && a2.slt b2) then a2 else b2) := by
    unfold reducer_argmax_i32_i32 IntOp.cmpi IntOp.ori IntOp.andi Scalar.select
    simp only [bne_self_eq_false]
    generalize b1.slt a1 = p
    generalize (a1 == b1) = q
    generalize a2.slt b2 = r
    cases p <;> cases q <;> cases r <;> rfl
  have hr : reducer_argmax_i32_i32 (a1, a2) (b1, b2)
      = if b1.slt a1 then (a1, a2) else if a1 = b1 ∧ a2.slt b2 then (b1, a2) else (b1, b2) := by
    rw [h0]
    by_cases h1 : b1.slt a1 = true
    · rw [h1]; rfl
    · rw [if_neg h1, if_neg h1]
      have h1' : b1.slt a1 = false := Bool.eq_false_of_not_eq_true h1
      by_cases h2 : a1 = b1 ∧ a2.slt b2 = true
      · rw [if_pos h2, h1', h2.1, h2.2, beq_self_eq_true]; rfl
      · rw [if_neg h2, if_neg (fun h => h2 ?_)]
        rw [h1', Bool.false_or, Bool.and_eq_true, beq_iff_eq] at h
        exact h
  rw [hr]
  by_cases h1 : b1.slt a1
  · rw [if_pos h1]
    have := BitVec.slt_iff_toInt_lt.mp h1
    exact ⟨Or.inl rfl, Or.inr ⟨rfl, le_rfl⟩, Or.inl this⟩
  · rw [if_neg h1]
    have h1' : a1.toInt ≤ b1.toInt := by
      by_contra hn
      exact h1 (BitVec.slt_iff_toInt_lt.mpr (not_le.mp hn))
    by_cases h2 : a1 = b1 ∧ a2.slt b2
    · rw [if_pos h2]
      obtain ⟨rfl, h3⟩ := h2
      have := BitVec.slt_iff_toInt_lt.mp h3
      exact ⟨Or.inl rfl, Or.inr ⟨rfl, le_rfl⟩, Or.inr ⟨rfl, this.le⟩⟩
    · rw [if_neg h2]
      refine ⟨Or.inr rfl, ?_, Or.inr ⟨rfl, le_rfl⟩⟩
      rcases lt_or_eq_of_le h1' with h | h
      · exact Or.inl h
      · have e := BitVec.toInt_inj.mp h
        refine Or.inr ⟨e.symm, ?_⟩
        by_contra hn
        exact h2 ⟨e, BitVec.slt_iff_toInt_lt.mpr (not_le.mp hn)⟩

/-- The whole fold returns its start or one of the list's pairs, and one at least as good as all of them. -/
theorem fold_best {ι : Type} (l : List ι) (g : ι → BitVec 32 × BitVec 32) (a : BitVec 32 × BitVec 32) :
    (l.foldl (fun r i => reducer_argmax_i32_i32 r (g i)) a = a
        ∨ ∃ i ∈ l, l.foldl (fun r i => reducer_argmax_i32_i32 r (g i)) a = g i)
      ∧ Better (l.foldl (fun r i => reducer_argmax_i32_i32 r (g i)) a) a
      ∧ ∀ i ∈ l, Better (l.foldl (fun r i => reducer_argmax_i32_i32 r (g i)) a) (g i) := by
  induction l generalizing a with
  | nil => exact ⟨Or.inl rfl, Or.inr ⟨rfl, le_rfl⟩, fun i h => absurd h (List.not_mem_nil)⟩
  | cons b l ih =>
    obtain ⟨h1, h2, h3⟩ := ih (reducer_argmax_i32_i32 a (g b))
    obtain ⟨s1, s2, s3⟩ := step a (g b)
    rw [List.foldl_cons]
    refine ⟨?_, h2.trans s2, fun i hi => ?_⟩
    · rcases h1 with h1 | ⟨i, hi, h1⟩
      · rcases s1 with s1 | s1
        · exact Or.inl (h1.trans s1)
        · exact Or.inr ⟨b, List.mem_cons_self, h1.trans s1⟩
      · exact Or.inr ⟨i, List.mem_cons_of_mem _ hi, h1⟩
    · rcases List.mem_cons.mp hi with rfl | hi
      · exact h2.trans s3
      · exact h3 i hi

/-- A reduction of pairs by that step returns its start or one of the pairs it folds over, and one at least as good as
    all of them. -/
theorem reduce2_best {s t u : Shape} {axes : List (Fin s.rank)} (x y : s.Idx → BitVec 32) (a b : u.Idx → BitVec 32)
    (a0 b0 : BitVec 32) (ha : ∀ k, a k = a0) (hb : ∀ k, b k = b0)
    (h : s.ReducesTo axes t) (hu : 0 < u.numel) (j : t.Idx) :
    (Host.reduce2 reducer_argmax_i32_i32 x y a b h hu j = (a0, b0)
        ∨ ∃ q, h.drop q = j ∧ Host.reduce2 reducer_argmax_i32_i32 x y a b h hu j = (x q, y q))
      ∧ ∀ q, h.drop q = j → Better (Host.reduce2 reducer_argmax_i32_i32 x y a b h hu j) (x q, y q) := by
  have e : Host.reduce2 reducer_argmax_i32_i32 x y a b h hu j
      = ((List.finRange s.numel).filter fun n => h.drop (s.rowMajor.symm n) = j).foldl
          (fun r n => reducer_argmax_i32_i32 r (x (s.rowMajor.symm n), y (s.rowMajor.symm n)))
          (a (Shape.Idx.first hu), b (Shape.Idx.first hu)) := rfl
  obtain ⟨h1, -, h3⟩ := fold_best ((List.finRange s.numel).filter fun n => h.drop (s.rowMajor.symm n) = j)
    (fun n => (x (s.rowMajor.symm n), y (s.rowMajor.symm n))) (a (Shape.Idx.first hu), b (Shape.Idx.first hu))
  rw [e, ← ha (Shape.Idx.first hu), ← hb (Shape.Idx.first hu)]
  refine ⟨h1.imp_right ?_, fun q hq => ?_⟩
  · rintro ⟨n, hn, h1⟩
    exact ⟨_, of_decide_eq_true (List.mem_filter.mp hn).2, h1⟩
  · have := h3 (s.rowMajor q) (List.mem_filter.mpr ⟨List.mem_finRange _, decide_eq_true (by rw [Equiv.symm_apply_apply]; exact hq)⟩)
    rwa [Equiv.symm_apply_apply] at this

/-- Below every pair whose first word is a small natural number lies the pair that starts the fold. -/
theorem not_better_start (b b' : BitVec 32) (m : ℕ) (hm : m ≤ 9) :
    ¬ Better (2147483648#32, b) (BitVec.ofNat 32 m, b') := by
  have hneg : (2147483648#32 : BitVec 32).toInt < 0 := by decide
  have h9 : 0 ≤ (BitVec.ofNat 32 m).toInt := (by decide : ∀ m ≤ 9, 0 ≤ (BitVec.ofNat 32 m).toInt) m hm
  rintro (h | ⟨h, -⟩)
  · exact absurd (lt_trans h hneg) (not_lt.mpr h9)
  · rw [← (show (2147483648#32 : BitVec 32) = BitVec.ofNat 32 m from h)] at h9
    exact absurd hneg (not_lt.mpr h9)

/-- Better, of pairs of a small count and a position below nine: the greater count, or an equal one no later. -/
theorem better_nat {m m' k k' : ℕ} (hm : m ≤ 9) (hm' : m' ≤ 9) (hk : k ≤ 9) (hk' : k' ≤ 9)
    (h : Better (BitVec.ofNat 32 m, BitVec.ofNat 32 k) (BitVec.ofNat 32 m', BitVec.ofNat 32 k')) :
    m' < m ∨ (m = m' ∧ k ≤ k') := by
  have hint : ∀ m ≤ 9, (BitVec.ofNat 32 m).toInt = (m : Int) := by decide
  rcases h with h | ⟨h, h'⟩
  · have h : (BitVec.ofNat 32 m').toInt < (BitVec.ofNat 32 m).toInt := h
    rw [hint _ hm, hint _ hm'] at h
    exact Or.inl (by omega)
  · have h : BitVec.ofNat 32 m = BitVec.ofNat 32 m' := h
    have h := congrArg BitVec.toInt h
    have h' : (BitVec.ofNat 32 k).toInt ≤ (BitVec.ofNat 32 k').toInt := h'
    rw [hint _ hm, hint _ hm'] at h
    rw [hint _ hk, hint _ hk'] at h'
    exact Or.inr ⟨by omega, by omega⟩

/-- A reduction of counts from 1 to 9, paired with their positions, over a fibre of nine: the first place of a greatest
    count. -/
theorem reduce2_place {s t u : Shape} {axes : List (Fin s.rank)} (x y : s.Idx → BitVec 32) (a b : u.Idx → BitVec 32)
    (ha : ∀ k, a k = 2147483648#32) (b0 : BitVec 32) (hb : ∀ k, b k = b0)
    (h : s.ReducesTo axes t) (hu : 0 < u.numel) (j : t.Idx) (at' : Fin 9 → s.Idx)
    (hat : ∀ q, h.drop q = j ↔ ∃ k, at' k = q) (d : Fin 9 → ℕ) (hd : ∀ k, d k ≤ 9)
    (hx : ∀ k, x (at' k) = BitVec.ofNat 32 (d k)) (hy : ∀ k, y (at' k) = BitVec.ofNat 32 k.val) :
    ∃ k : Fin 9, firstGreatest x y a b h hu j = BitVec.ofNat 32 k.val
      ∧ (∀ l, d l ≤ d k) ∧ ∀ l < k, d l < d k := by
  obtain ⟨h1, h3⟩ := reduce2_best x y a b _ _ ha hb h hu j
  unfold firstGreatest
  generalize Host.reduce2 reducer_argmax_i32_i32 x y a b h hu j = r at h1 h3 ⊢
  have hk3 : ∀ k : Fin 9, Better r (BitVec.ofNat 32 (d k), BitVec.ofNat 32 k.val) := fun k => by
    have := h3 _ ((hat _).mpr ⟨k, rfl⟩)
    rwa [hx, hy] at this
  rcases h1 with h1 | ⟨q, hq, h1⟩
  · exact absurd (h1 ▸ hk3 0) (not_better_start _ _ _ (hd 0))
  · obtain ⟨k, rfl⟩ := (hat _).mp hq
    rw [hx, hy] at h1
    have hl : ∀ l : Fin 9, d l < d k ∨ (d k = d l ∧ k.val ≤ l.val) := fun l =>
      better_nat (hd k) (hd l) (by omega) (by omega) (h1 ▸ hk3 l)
    refine ⟨k, by rw [h1], fun l => ?_, fun l hlk => ?_⟩
    · rcases hl l with h | h <;> omega
    · have hlk : l.val < k.val := hlk
      rcases hl l with h | h <;> omega

/-- The position where the counts are natural numbers from 1 to 9: a place of a greatest count, the first such. -/
theorem place_apply (v : S2x64x9x256x256.Idx → BitVec 32) (d : Fin 9 → ℕ) (n : Fin 2) (c : Fin 64) (i j : Fin 256)
    (hv : ∀ k, v (ix5 n c k i j) = BitVec.ofNat 32 (d k)) (hd : ∀ k, d k ≤ 9) :
    ∃ a : Fin 9, place v (ix4 n c i j) = BitVec.ofNat 32 a.val ∧ (∀ k, d k ≤ d a) ∧ ∀ k < a, d k < d a :=
  reduce2_place v (iotaInDim S2x64x9x256x256 32 2) (constantI S_ 32 2147483648#32) (constantI S_ 32 0#32)
    (fun _ => rfl) 0#32 (fun _ => rfl) reducesTo_S2x64x9x256x256_S2x64x256x256_d2 h_S_ (ix4 n c i j)
    (fun k => ix5 n c k i j)
    (Shape.ReducesTo.fiber_r5_a2 reducesTo_S2x64x9x256x256_S2x64x256x256_d2 (ix4 n c i j)) d hd hv (fun _ => rfl)

end Cert.ReferenceIdeal.Place

end
-- ==== Proof.RefVal.lean ====
/-
  The reference's result: the sorted value at the first greatest count, which is the mode of the window.
-/
module

public import proofs.«01_k».proof.Proof.RefPlace

@[expose] public section

noncomputable section

namespace Cert.ReferenceIdeal.Val

open Cert.ReferenceIdeal Cert.ReferenceIdeal.Gen Cert.ReferenceIdeal.Run Cert.ReferenceIdeal.Sort
open Cert.ReferenceIdeal.Place Cert.Window
open Idealize.ShloMosaic

/-- A start index is the position, a position below nine being none to wrap. -/
theorem start_apply (p : S2x64x256x256.Idx → BitVec 32) (a : Fin 9) (n : Fin 2) (c : Fin 64) (i j : Fin 256)
    (hp : p (ix4 n c i j) = BitVec.ofNat 32 a.val) (z z' : Fin 1) :
    start p (ix6 n c z i j z') = BitVec.ofNat 32 a.val := by
  have e : start p (ix6 n c z i j z') = Scalar.select (IntOp.cmpi .slt (p (ix4 n c i j)) 0#32)
      (IntOp.addi (p (ix4 n c i j)) 9#32) (p (ix4 n c i j)) := by
    obtain rfl : z = 0 := Subsingleton.elim _ _
    obtain rfl : z' = 0 := Subsingleton.elim _ _
    unfold start
    pointwise
  rw [e, hp]
  exact (by decide : ∀ a : Fin 9, Scalar.select (IntOp.cmpi .slt (BitVec.ofNat 32 a.val) 0#32)
    (IntOp.addi (BitVec.ofNat 32 a.val) 9#32) (BitVec.ofNat 32 a.val) = BitVec.ofNat 32 a.val) a

/-- The start indices that one test covers: one. -/
theorem fiber_inside (n : Fin 2) (c : Fin 64) (z : Fin 1) (i j : Fin 256) (q : S2x64x1x256x256x1.Idx) :
    Shape.ReducesTo.drop reducesTo_S2x64x1x256x256x1_S2x64x1x256x256_d5 q = ix5 n c z i j
      ↔ ∃ l : Fin 1, (ix6 n c z i j l : S2x64x1x256x256x1.Idx) = q := by
  constructor
  · intro e
    refine ⟨q 5, ?_⟩
    funext a
    match a with
    | ⟨0, _⟩ => exact (congrFun e 0).symm
    | ⟨1, _⟩ => exact (congrFun e 1).symm
    | ⟨2, _⟩ => exact (congrFun e 2).symm
    | ⟨3, _⟩ => exact (congrFun e 3).symm
    | ⟨4, _⟩ => exact (congrFun e 4).symm
    | ⟨5, _⟩ => rfl
  · rintro ⟨l, rfl⟩
    funext a
    match a with
    | ⟨0, _⟩ => rfl
    | ⟨1, _⟩ => rfl
    | ⟨2, _⟩ => rfl
    | ⟨3, _⟩ => rfl
    | ⟨4, _⟩ => rfl

/-- A start index below nine passes the test. -/
theorem inside_apply (s : S2x64x1x256x256x1.Idx → BitVec 32) (a : Fin 9) (n : Fin 2) (c : Fin 64) (z : Fin 1)
    (i j : Fin 256) (hs : ∀ l, s (ix6 n c z i j l) = BitVec.ofNat 32 a.val) : inside s (ix5 n c z i j) = 1#1 := by
  unfold inside
  rw [Host.reduce_eq_fold, Finset.fold_filter_eq_fold_of_fiber IntOp.andi _
    (fun l : Fin 1 => (ix6 n c z i j l : S2x64x1x256x256x1.Idx)) (fun _ _ e => congrFun e 5) (fiber_inside n c z i j)]
  have e1 : ∀ l, andi
      (cmpi .sge s (broadcastInDim S2x64x1x256x256x1 ![] bcast_S_S2x64x1x256x256x1 (constantI S_ 32 0#32)))
      (cmpi .sle s (broadcastInDim S2x64x1x256x256x1 ![0, 1, 2, 3, 4, 5]
        bcast_S1x1x1x1x1x1_S2x64x1x256x256x1_0_1_2_3_4_5
        (broadcastInDim S1x1x1x1x1x1 ![5] bcast_S1_S1x1x1x1x1x1_5 (constantI S1 32 8#32)))) (ix6 n c z i j l)
      = IntOp.andi (IntOp.cmpi .sge (s (ix6 n c z i j l)) 0#32) (IntOp.cmpi .sle (s (ix6 n c z i j l)) 8#32) :=
    fun _ => rfl
  have e2 : (Finset.univ : Finset (Fin 1)) = {0} := rfl
  rw [e2, Finset.fold_singleton, e1, hs]
  exact (by decide : ∀ a : Fin 9, IntOp.andi (IntOp.andi (IntOp.cmpi .sge (BitVec.ofNat 32 a.val) 0#32)
    (IntOp.cmpi .sle (BitVec.ofNat 32 a.val) 8#32)) 1#1 = 1#1) a

/-- The gather at an index: the operand at the start index, for one below nine. -/
theorem gather_apply {α : Type} (x : S2x64x9x256x256.Idx → α) (s : S2x64x1x256x256x1.Idx → BitVec 32) (a : Fin 9)
    (n : Fin 2) (c : Fin 64) (z : Fin 1) (i j : Fin 256) (hs : ∀ l, s (ix6 n c z i j l) = BitVec.ofNat 32 a.val) :
    Host.gather gather_S2x64x9x256x256_S2x64x1x256x256x1_S2x64x1x256x256_n_2_0134_0134_2_5_11111 x s (ix5 n c z i j)
      = x (ix5 n c a i j) := by
  unfold Host.gather
  congr 1
  funext b
  refine Fin.ext ?_
  generalize hG : gather_S2x64x9x256x256_S2x64x1x256x256x1_S2x64x1x256x256_n_2_0134_0134_2_5_11111 = G
  show G.start (ix5 n c z i j) s b + G.batchCoord (ix5 n c z i j) b + G.offCoord (ix5 n c z i j) b = _
  subst hG
  have hbatch : ∀ b ∈ ([0, 1, 3, 4] : List (Fin 5)),
      gather_S2x64x9x256x256_S2x64x1x256x256x1_S2x64x1x256x256_n_2_0134_0134_2_5_11111.start (ix5 n c z i j) s b
        + gather_S2x64x9x256x256_S2x64x1x256x256x1_S2x64x1x256x256_n_2_0134_0134_2_5_11111.batchCoord (ix5 n c z i j) b
        + gather_S2x64x9x256x256_S2x64x1x256x256x1_S2x64x1x256x256_n_2_0134_0134_2_5_11111.offCoord (ix5 n c z i j) b
      = gather_S2x64x9x256x256_S2x64x1x256x256x1_S2x64x1x256x256_n_2_0134_0134_2_5_11111.batchCoord (ix5 n c z i j) b :=
    fun b hb => by
      rw [GatherDims.start_batching _ _ _ _ hb,
        GatherDims.offCoord_eq_zero _ _ _ (fun h => ((GatherDims.mem_sKept _ _).mp h).2 hb), Nat.zero_add, Nat.add_zero]
  have hm : (2 : Fin 5) ∈
      gather_S2x64x9x256x256_S2x64x1x256x256x1_S2x64x1x256x256_n_2_0134_0134_2_5_11111.startIndexMap :=
    List.mem_singleton.mpr rfl
  rcases (by decide : ∀ b : Fin 5, b = 2 ∨ b = 0 ∨ b = 1 ∨ b = 3 ∨ b = 4) b with rfl | h
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos hm]
    have hsi : gather_S2x64x9x256x256_S2x64x1x256x256x1_S2x64x1x256x256_n_2_0134_0134_2_5_11111.siIdx (ix5 n c z i j)
        ⟨List.idxOf (2 : Fin 5)
          gather_S2x64x9x256x256_S2x64x1x256x256x1_S2x64x1x256x256_n_2_0134_0134_2_5_11111.startIndexMap,
        List.idxOf_lt_length_iff.2 hm⟩ = (ix6 n c z i j 0 : S2x64x1x256x256x1.Idx) := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    have hw : ∀ a : Fin 9, min (BitVec.ofNat 32 a.val).toInt.toNat 8 = a.val := by decide
    exact (congrArg (fun q => min (s q).toInt.toNat 8) hsi).trans ((congrArg (fun q => min q.toInt.toNat 8) (hs 0)).trans (hw a))
  · rcases h with rfl | rfl | rfl | rfl
    · rw [hbatch _ (by decide)]
      unfold GatherDims.batchCoord
      rw [dif_pos (by decide)]
      rfl
    · rw [hbatch _ (by decide)]
      unfold GatherDims.batchCoord
      rw [dif_pos (by decide)]
      rfl
    · rw [hbatch _ (by decide)]
      unfold GatherDims.batchCoord
      rw [dif_pos (by decide)]
      rfl
    · rw [hbatch _ (by decide)]
      unfold GatherDims.batchCoord
      rw [dif_pos (by decide)]
      rfl

/-- The value taken at an index, for a start index below nine. -/
theorem taken_apply (x : S2x64x9x256x256.Idx → EReal) (s : S2x64x1x256x256x1.Idx → BitVec 32) (a : Fin 9)
    (n : Fin 2) (c : Fin 64) (z : Fin 1) (i j : Fin 256) (hs : ∀ l, s (ix6 n c z i j l) = BitVec.ofNat 32 a.val) :
    taken (F := Ideal) x s (ix5 n c z i j) = x (ix5 n c a i j) := by
  unfold taken select
  rw [inside_apply s a n c z i j hs, gather_apply x s a n c z i j hs]
  rfl

/-- Dropping the axis of one element. -/
theorem cast_apply {α : Type} (f : S2x64x1x256x256.Idx → α) (n : Fin 2) (c : Fin 64) (i j : Fin 256) :
    shapeCast S2x64x256x256 f shapeCasts_S2x64x1x256x256_S2x64x256x256 (ix4 n c i j) = f (ix5 n c 0 i j) := by
  pointwise

/-- On images of the numbers 0 to 15, the reference returns the mode of every window. -/
theorem result_eq (x : S2x64x512x512.Idx → EReal) (hx : Small x) : result (F := Ideal) x = answer x := by
  funext q
  obtain ⟨n, c, i, j, rfl⟩ : ∃ (n : Fin 2) (c : Fin 64) (i j : Fin 256), q = ix4 n c i j := by
    refine ⟨q 0, q 1, q 2, q 3, ?_⟩
    funext a
    match a with
    | ⟨0, _⟩ => rfl
    | ⟨1, _⟩ => rfl
    | ⟨2, _⟩ => rfl
    | ⟨3, _⟩ => rfl
  obtain ⟨σ, hσ, hmono, hs⟩ := sorted_apply x hx n c i j
  have hw : ∀ k, win (img x n c) i j k < 16 := win_lt _ (img_lt x hx n c) i j
  obtain ⟨a, ha, hmax, hfirst⟩ := place_apply (counts (F := Ideal) (sorted (F := Ideal) x))
    (fun k => Mode.count (fun k => win (img x n c) i j (σ k)) (win (img x n c) i j (σ k))) n c i j
    (fun k => counts_apply _ (fun k => win (img x n c) i j (σ k)) n c i j hs k) (fun k => Mode.count_le _ _)
  have hst := start_apply _ a n c i j ha
  unfold result
  refine (cast_apply _ n c i j).trans ?_
  refine (taken_apply _ _ a n c 0 i j (fun l => hst 0 l)).trans ?_
  refine (hs a).trans ?_
  show _ = ((Mode.mode (win (img x n c) i j) : ℝ) : EReal)
  rw [Mode.mode_sorted (win (img x n c) i j) (fun k => win (img x n c) i j (σ k)) hmono
    (fun u => Mode.count_comp _ σ hσ u) (fun k => hw _) a hmax hfirst]

end Cert.ReferenceIdeal.Val

end
-- ==== Proof.Scope.lean ====
/-
  What the precondition says of an element: it is one of the numbers 0 to 15.
-/
module

public import proofs.«01_k».proof.Pre_small_whole_numbers
public import proofs.«01_k».proof.Proof.Window
public import Idealize.ShloMosaic.Lib.Pointwise
public import Idealize.ShloMosaic.Lib.ValueIdx
public import Idealize.ShloMosaic.Lib.Affine
public import Idealize.ShloMosaic.PureOps.Ideal

@[expose] public section

noncomputable section

namespace Cert.Scope

open Idealize.ShloMosaic Cert.Window

/-- The precondition's one shape fact. -/
theorem facts : Cert.Pre_small_whole_numbers.Facts := ⟨by decide⟩

/-- The pattern of fifteen. -/
theorem fifteen : Ideal.ofBits .f32 0x41700000#32 = ((15 : ℝ) : EReal) := by
  simp [Ideal.ofBits, Ideal.ieee, -EReal.coe_mul]
  norm_num

/-- The pattern of zero. -/
theorem zero : Ideal.ofBits .f32 0x00000000#32 = ((0 : ℝ) : EReal) := by
  simp [Ideal.ofBits, Ideal.ieee, -EReal.coe_mul]

/-- An extended real from 0 to 15 that its floor leaves alone is one of the numbers 0 to 15. -/
theorem small_of_bounds (e : EReal) (hf : Ideal.liftRound Int.floor e = e) (h0 : ((0 : ℝ) : EReal) ≤ e)
    (h15 : e ≤ ((15 : ℝ) : EReal)) : e = ((val e : ℝ) : EReal) ∧ val e < 16 := by
  induction e using EReal.rec with
  | bot => exact absurd h0 (by simp)
  | top => exact absurd h15 (by simp)
  | coe r =>
    have hr : ((⌊r⌋ : ℤ) : ℝ) = r := by
      have : (((⌊r⌋ : ℤ) : ℝ) : EReal) = (r : EReal) := hf
      exact_mod_cast this
    have r0 : 0 ≤ r := EReal.coe_le_coe_iff.1 h0
    have r15 : r ≤ 15 := EReal.coe_le_coe_iff.1 h15
    have hv : val (r : EReal) = ⌊r⌋₊ := rfl
    have hn : ((⌊r⌋₊ : ℕ) : ℝ) = r := by
      rw [← hr]
      rw [← Int.natCast_floor_eq_floor r0]
      simp
    refine ⟨by rw [hv, hn], ?_⟩
    rw [hv]
    have : ((⌊r⌋₊ : ℕ) : ℝ) < 16 := by rw [hn]; linarith
    exact_mod_cast this

/-- A one-bit word made from a decision is one when what is decided holds. -/
theorem of_bit {p : Prop} [Decidable p] (h : BitVec.ofBool (decide p) = 1#1) : p := by
  by_contra hp
  simp [hp] at h

/-- Where the precondition holds every element is one of the numbers 0 to 15. -/
theorem small_of_pre [Cert.Pre_small_whole_numbers.Facts] (x : (⟨4, ![2, 64, 512, 512]⟩ : Shape).Idx → EReal)
    (h : Cert.Pre_small_whole_numbers.fn (F := Ideal) x = fun _ => 1#1) : Small x := by
  intro i
  have hi := congrFun h i
  have hi' : IntOp.andi (IntOp.andi (Ideal.cmp .oeq (Ideal.liftRound Int.floor (x i)) (x i))
      (Ideal.cmp .oge (x i) (Ideal.ofBits .f32 0x00000000#32))) (Ideal.cmp .ole (x i) (Ideal.ofBits .f32 0x41700000#32)) = 1#1 := hi
  obtain ⟨h1, h3⟩ := IntOp.andi_eq_one.1 hi'
  obtain ⟨h1, h2⟩ := IntOp.andi_eq_one.1 h1
  rw [zero] at h2
  rw [fifteen] at h3
  exact small_of_bounds _ (of_bit h1) (of_bit h2) (of_bit h3)

end Cert.Scope

end
-- ==== Proof.lean ====
/-
  The certificate: the run of the kernel at its bits and at exact values, the run of the reference at exact values, and
  the equality of the two results on images of the whole numbers 0 to 15, both being `Window.answer`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelArr
public import proofs.«01_k».proof.Proof.RefVal
public import proofs.«01_k».proof.Proof.Scope
public import Idealize.ShloMosaic.Adequacy
public import Idealize.ShloMosaic.Init

@[expose] public section

noncomputable section

namespace Cert.Proof

open Idealize.ShloMosaic Idealize.SL.Sem

/-- The reference's run leaves its argument as it was and every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run (Cert.ReferenceIdeal.defs (F := Ideal)) _ _).mono (fun _ h => ⟨fun c => (h.1 c).2, h.2⟩)
    (Cert.ReferenceIdeal.Run.run_main m g)

/-- The kernel and the reference at exact values both end with the windows' modes. -/
theorem algebraic [Cert.Pre_small_whole_numbers.Facts] :
    algebraic_KernelIdeal_ReferenceIdeal_pre_small_whole_numbers := by
  intro m g m' g' hpre harg
  have hx : ∀ c : Dev Cert.KernelIdeal.nD, Window.Small (s := ⟨4, ![2, 64, 512, 512]⟩)
      (m ((c.tc : Thread Cert.KernelIdeal.nD Cert.KernelIdeal.τ).loc Cert.KernelIdeal.main_arg0)) :=
    fun c => Scope.small_of_pre _ (hpre c)
  refine ⟨fun c => Window.answer (m ((c.tc : Thread Cert.KernelIdeal.nD Cert.KernelIdeal.τ).loc Cert.KernelIdeal.main_arg0)),
    Cert.KernelIdeal.Plane.run m g hx, ?_⟩
  refine (θ_run (Cert.ReferenceIdeal.defs (F := Ideal)) _ _).mono (fun r h c => ⟨?_, (h.1 c).2⟩)
    (Cert.ReferenceIdeal.Run.run_main m' g')
  refine (h.1 c).1.trans ?_
  refine (congrArg (fun x => Cert.ReferenceIdeal.Run.result (F := Ideal) x) (harg c)).trans ?_
  exact Cert.ReferenceIdeal.Val.result_eq _ (hx c)

/-- Everything the certificate claims. -/
theorem claim : Cert.Claim :=
  ⟨Cert.Kernel.Gen.facts, Cert.KernelIdeal.Gen.facts, Cert.ReferenceIdeal.Gen.facts, Scope.facts,
    fun m g _ => Cert.Kernel.Gen.frame m g, fun m g _ => Cert.KernelIdeal.Gen.frame m g,
    fun m g _ => Cert.KernelIdeal.Gen.frame m g, fun m g _ => frame_reference m g, fun m g _ => frame_reference m g,
    trivial, haveI := Scope.facts; algebraic⟩

end Cert.Proof

end
